-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Pq (m : (ℓ : Loc Cert.Pq.nD Cert.Pq.τ Cert.Pq.sig) → Buf (Elt Bits) ℓ) : Prop :=
  True

def Pre_PqIdeal (m : (ℓ : Loc Cert.PqIdeal.nD Cert.PqIdeal.τ Cert.PqIdeal.sig) → Buf (Elt Ideal) ℓ) : Prop :=
  True

def Pre_PqReferenceIdeal (m : (ℓ : Loc Cert.PqReferenceIdeal.nD Cert.PqReferenceIdeal.τ Cert.PqReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnReferenceIdeal (m : (ℓ : Loc Cert.XattnReferenceIdeal.nD Cert.XattnReferenceIdeal.τ Cert.XattnReferenceIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Pq [hPq : Cert.Pq.Facts] : Prop :=
  ∀ (m : (ℓ : Loc Cert.Pq.nD Cert.Pq.τ Cert.Pq.sig) → Buf (Elt Bits) ℓ) (g : Dev Cert.Pq.nD → PrngReg), Pre_Pq m →
    θ_run (Cert.Pq.defs (F := Bits)) (onTc (τ := Cert.Pq.τ) (Cert.Pq.main (F := Bits))) ⟨m, fun _ => 0, g⟩ (fun r => (∀ c : Dev Cert.Pq.nD,
      r.2.mem ((c.tc : Thread Cert.Pq.nD Cert.Pq.τ).loc Cert.Pq.main_arg0) = m ((c.tc : Thread Cert.Pq.nD Cert.Pq.τ).loc Cert.Pq.main_arg0)
      ∧ r.2.mem ((c.tc : Thread Cert.Pq.nD Cert.Pq.τ).loc Cert.Pq.main_arg1) = m ((c.tc : Thread Cert.Pq.nD Cert.Pq.τ).loc Cert.Pq.main_arg1)
      ∧ r.2.mem ((c.tc : Thread Cert.Pq.nD Cert.Pq.τ).loc Cert.Pq.main_arg2) = m ((c.tc : Thread Cert.Pq.nD Cert.Pq.τ).loc Cert.Pq.main_arg2))
      ∧ r.2.sem = fun _ => 0)

def quiescent_PqIdeal [hPqIdeal : Cert.PqIdeal.Facts] : Prop :=
  ∀ (m : (ℓ : Loc Cert.PqIdeal.nD Cert.PqIdeal.τ Cert.PqIdeal.sig) → Buf (Elt Ideal) ℓ) (g : Dev Cert.PqIdeal.nD → PrngReg), Pre_PqIdeal m →
    θ_run (Cert.PqIdeal.defs (F := Ideal)) (onTc (τ := Cert.PqIdeal.τ) (Cert.PqIdeal.main (F := Ideal))) ⟨m, fun _ => 0, g⟩ (fun r => (∀ c : Dev Cert.PqIdeal.nD,
      r.2.mem ((c.tc : Thread Cert.PqIdeal.nD Cert.PqIdeal.τ).loc Cert.PqIdeal.main_arg0) = m ((c.tc : Thread Cert.PqIdeal.nD Cert.PqIdeal.τ).loc Cert.PqIdeal.main_arg0)
      ∧ r.2.mem ((c.tc : Thread Cert.PqIdeal.nD Cert.PqIdeal.τ).loc Cert.PqIdeal.main_arg1) = m ((c.tc : Thread Cert.PqIdeal.nD Cert.PqIdeal.τ).loc Cert.PqIdeal.main_arg1)
      ∧ r.2.mem ((c.tc : Thread Cert.PqIdeal.nD Cert.PqIdeal.τ).loc Cert.PqIdeal.main_arg2) = m ((c.tc : Thread Cert.PqIdeal.nD Cert.PqIdeal.τ).loc Cert.PqIdeal.main_arg2))
      ∧ r.2.sem = fun _ => 0)

def quiescent_PqReferenceIdeal [hPqReferenceIdeal : Cert.PqReferenceIdeal.Facts] : Prop :=
  ∀ (m : (ℓ : Loc Cert.PqReferenceIdeal.nD Cert.PqReferenceIdeal.τ Cert.PqReferenceIdeal.sig) → Buf (Elt Ideal) ℓ) (g : Dev Cert.PqReferenceIdeal.nD → PrngReg), Pre_PqReferenceIdeal m →
    θ_run (Cert.PqReferenceIdeal.defs (F := Ideal)) (onTc (τ := Cert.PqReferenceIdeal.τ) (Cert.PqReferenceIdeal.main (F := Ideal))) ⟨m, fun _ => 0, g⟩ (fun r => (∀ c : Dev Cert.PqReferenceIdeal.nD,
      r.2.mem ((c.tc : Thread Cert.PqReferenceIdeal.nD Cert.PqReferenceIdeal.τ).loc Cert.PqReferenceIdeal.main_arg0) = m ((c.tc : Thread Cert.PqReferenceIdeal.nD Cert.PqReferenceIdeal.τ).loc Cert.PqReferenceIdeal.main_arg0)
      ∧ r.2.mem ((c.tc : Thread Cert.PqReferenceIdeal.nD Cert.PqReferenceIdeal.τ).loc Cert.PqReferenceIdeal.main_arg1) = m ((c.tc : Thread Cert.PqReferenceIdeal.nD Cert.PqReferenceIdeal.τ).loc Cert.PqReferenceIdeal.main_arg1)
      ∧ r.2.mem ((c.tc : Thread Cert.PqReferenceIdeal.nD Cert.PqReferenceIdeal.τ).loc Cert.PqReferenceIdeal.main_arg2) = m ((c.tc : Thread Cert.PqReferenceIdeal.nD Cert.PqReferenceIdeal.τ).loc Cert.PqReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2)
      ∧ r.2.mem ((c.tc : Thread Cert.Xq.nD Cert.Xq.τ).loc Cert.Xq.main_arg3) = m ((c.tc : Thread Cert.Xq.nD Cert.Xq.τ).loc Cert.Xq.main_arg3))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0)
      ∧ r.2.mem ((c.tc : Thread Cert.XqReferenceIdeal.nD Cert.XqReferenceIdeal.τ).loc Cert.XqReferenceIdeal.main_arg1) = m ((c.tc : Thread Cert.XqReferenceIdeal.nD Cert.XqReferenceIdeal.τ).loc Cert.XqReferenceIdeal.main_arg1)
      ∧ r.2.mem ((c.tc : Thread Cert.XqReferenceIdeal.nD Cert.XqReferenceIdeal.τ).loc Cert.XqReferenceIdeal.main_arg2) = m ((c.tc : Thread Cert.XqReferenceIdeal.nD Cert.XqReferenceIdeal.τ).loc Cert.XqReferenceIdeal.main_arg2)
      ∧ r.2.mem ((c.tc : Thread Cert.XqReferenceIdeal.nD Cert.XqReferenceIdeal.τ).loc Cert.XqReferenceIdeal.main_arg3) = m ((c.tc : Thread Cert.XqReferenceIdeal.nD Cert.XqReferenceIdeal.τ).loc Cert.XqReferenceIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1)
      ∧ r.2.mem ((c.tc : Thread Cert.XoReferenceIdeal.nD Cert.XoReferenceIdeal.τ).loc Cert.XoReferenceIdeal.main_arg2) = m ((c.tc : Thread Cert.XoReferenceIdeal.nD Cert.XoReferenceIdeal.τ).loc Cert.XoReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v12)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v45) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Pq_PqIdeal : Prop :=
  True

def algebraic_PqIdeal_PqReferenceIdeal [hPqIdeal : Cert.PqIdeal.Facts] [hPqReferenceIdeal : Cert.PqReferenceIdeal.Facts] : Prop :=
  ∀ (m : (ℓ : Loc Cert.PqIdeal.nD Cert.PqIdeal.τ Cert.PqIdeal.sig) → Buf (Elt Ideal) ℓ) (g : Dev Cert.PqIdeal.nD → PrngReg)
    (m' : (ℓ : Loc Cert.PqReferenceIdeal.nD Cert.PqReferenceIdeal.τ Cert.PqReferenceIdeal.sig) → Buf (Elt Ideal) ℓ) (g' : Dev Cert.PqReferenceIdeal.nD → PrngReg), Pre_PqIdeal m →
    (∀ c : Dev Cert.PqIdeal.nD,
      m' ((c.tc : Thread Cert.PqReferenceIdeal.nD Cert.PqReferenceIdeal.τ).loc Cert.PqReferenceIdeal.main_arg0) = m ((c.tc : Thread Cert.PqIdeal.nD Cert.PqIdeal.τ).loc Cert.PqIdeal.main_arg0)
      ∧ m' ((c.tc : Thread Cert.PqReferenceIdeal.nD Cert.PqReferenceIdeal.τ).loc Cert.PqReferenceIdeal.main_arg1) = m ((c.tc : Thread Cert.PqIdeal.nD Cert.PqIdeal.τ).loc Cert.PqIdeal.main_arg1)
      ∧ m' ((c.tc : Thread Cert.PqReferenceIdeal.nD Cert.PqReferenceIdeal.τ).loc Cert.PqReferenceIdeal.main_arg2) = m ((c.tc : Thread Cert.PqIdeal.nD Cert.PqIdeal.τ).loc Cert.PqIdeal.main_arg2)) →
    ∃ (v0 : (c : Dev Cert.PqIdeal.nD) → Buf (Elt Ideal) ((c.tc : Thread Cert.PqIdeal.nD Cert.PqIdeal.τ).loc Cert.PqIdeal.main_v2)),
      θ_run (Cert.PqIdeal.defs (F := Ideal)) (onTc (τ := Cert.PqIdeal.τ) (Cert.PqIdeal.main (F := Ideal))) ⟨m, fun _ => 0, g⟩ (fun r => ∀ c : Dev Cert.PqIdeal.nD,
          r.2.mem ((c.tc : Thread Cert.PqIdeal.nD Cert.PqIdeal.τ).loc Cert.PqIdeal.main_v2) = v0 c
          ∧ r.2.mem ((c.tc : Thread Cert.PqIdeal.nD Cert.PqIdeal.τ).loc Cert.PqIdeal.main_arg0) = m ((c.tc : Thread Cert.PqIdeal.nD Cert.PqIdeal.τ).loc Cert.PqIdeal.main_arg0)
          ∧ r.2.mem ((c.tc : Thread Cert.PqIdeal.nD Cert.PqIdeal.τ).loc Cert.PqIdeal.main_arg1) = m ((c.tc : Thread Cert.PqIdeal.nD Cert.PqIdeal.τ).loc Cert.PqIdeal.main_arg1)
          ∧ r.2.mem ((c.tc : Thread Cert.PqIdeal.nD Cert.PqIdeal.τ).loc Cert.PqIdeal.main_arg2) = m ((c.tc : Thread Cert.PqIdeal.nD Cert.PqIdeal.τ).loc Cert.PqIdeal.main_arg2))
      ∧ θ_run (Cert.PqReferenceIdeal.defs (F := Ideal)) (onTc (τ := Cert.PqReferenceIdeal.τ) (Cert.PqReferenceIdeal.main (F := Ideal))) ⟨m', fun _ => 0, g'⟩ (fun r => ∀ c : Dev Cert.PqReferenceIdeal.nD,
          r.2.mem ((c.tc : Thread Cert.PqReferenceIdeal.nD Cert.PqReferenceIdeal.τ).loc Cert.PqReferenceIdeal.main_v13) = v0 c
          ∧ r.2.mem ((c.tc : Thread Cert.PqReferenceIdeal.nD Cert.PqReferenceIdeal.τ).loc Cert.PqReferenceIdeal.main_arg0) = m' ((c.tc : Thread Cert.PqReferenceIdeal.nD Cert.PqReferenceIdeal.τ).loc Cert.PqReferenceIdeal.main_arg0)
          ∧ r.2.mem ((c.tc : Thread Cert.PqReferenceIdeal.nD Cert.PqReferenceIdeal.τ).loc Cert.PqReferenceIdeal.main_arg1) = m' ((c.tc : Thread Cert.PqReferenceIdeal.nD Cert.PqReferenceIdeal.τ).loc Cert.PqReferenceIdeal.main_arg1)
          ∧ r.2.mem ((c.tc : Thread Cert.PqReferenceIdeal.nD Cert.PqReferenceIdeal.τ).loc Cert.PqReferenceIdeal.main_arg2) = m' ((c.tc : Thread Cert.PqReferenceIdeal.nD Cert.PqReferenceIdeal.τ).loc Cert.PqReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v8)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v8) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v31) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_Xq_XqIdeal : Prop :=
  True

def algebraic_XqIdeal_XqReferenceIdeal [hXqIdeal : Cert.XqIdeal.Facts] [hXqReferenceIdeal : Cert.XqReferenceIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqIdeal m →
    (∀ c : Dev Cert.XqIdeal.nD,
      m' ((c.tc : Thread Cert.XqReferenceIdeal.nD Cert.XqReferenceIdeal.τ).loc Cert.XqReferenceIdeal.main_arg0) = m ((c.tc : Thread Cert.XqIdeal.nD Cert.XqIdeal.τ).loc Cert.XqIdeal.main_arg0)
      ∧ m' ((c.tc : Thread Cert.XqReferenceIdeal.nD Cert.XqReferenceIdeal.τ).loc Cert.XqReferenceIdeal.main_arg1) = m ((c.tc : Thread Cert.XqIdeal.nD Cert.XqIdeal.τ).loc Cert.XqIdeal.main_arg1)
      ∧ m' ((c.tc : Thread Cert.XqReferenceIdeal.nD Cert.XqReferenceIdeal.τ).loc Cert.XqReferenceIdeal.main_arg2) = m ((c.tc : Thread Cert.XqIdeal.nD Cert.XqIdeal.τ).loc Cert.XqIdeal.main_arg2)
      ∧ m' ((c.tc : Thread Cert.XqReferenceIdeal.nD Cert.XqReferenceIdeal.τ).loc Cert.XqReferenceIdeal.main_arg3) = m ((c.tc : Thread Cert.XqIdeal.nD Cert.XqIdeal.τ).loc Cert.XqIdeal.main_arg3)) →
    ∃ (v0 : (c : Dev Cert.XqIdeal.nD) → Buf (Elt Ideal) ((c.tc : Thread Cert.XqIdeal.nD Cert.XqIdeal.τ).loc Cert.XqIdeal.main_v6)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v6) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
          ∧ r.2.mem ((c.tc : Thread Cert.XqIdeal.nD Cert.XqIdeal.τ).loc Cert.XqIdeal.main_arg3) = m ((c.tc : Thread Cert.XqIdeal.nD Cert.XqIdeal.τ).loc Cert.XqIdeal.main_arg3))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v28) = v0 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0)
          ∧ r.2.mem ((c.tc : Thread Cert.XqReferenceIdeal.nD Cert.XqReferenceIdeal.τ).loc Cert.XqReferenceIdeal.main_arg1) = m' ((c.tc : Thread Cert.XqReferenceIdeal.nD Cert.XqReferenceIdeal.τ).loc Cert.XqReferenceIdeal.main_arg1)
          ∧ r.2.mem ((c.tc : Thread Cert.XqReferenceIdeal.nD Cert.XqReferenceIdeal.τ).loc Cert.XqReferenceIdeal.main_arg2) = m' ((c.tc : Thread Cert.XqReferenceIdeal.nD Cert.XqReferenceIdeal.τ).loc Cert.XqReferenceIdeal.main_arg2)
          ∧ r.2.mem ((c.tc : Thread Cert.XqReferenceIdeal.nD Cert.XqReferenceIdeal.τ).loc Cert.XqReferenceIdeal.main_arg3) = m' ((c.tc : Thread Cert.XqReferenceIdeal.nD Cert.XqReferenceIdeal.τ).loc Cert.XqReferenceIdeal.main_arg3))

def preserves_Xattn_XattnIdeal : Prop :=
  True

def algebraic_XattnIdeal_XattnReferenceIdeal [hXattnIdeal : Cert.XattnIdeal.Facts] [hXattnReferenceIdeal : Cert.XattnReferenceIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v21) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1))

def preserves_Xo_XoIdeal : Prop :=
  True

def algebraic_XoIdeal_XoReferenceIdeal [hXoIdeal : Cert.XoIdeal.Facts] [hXoReferenceIdeal : Cert.XoReferenceIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoIdeal m →
    (∀ c : Dev Cert.XoIdeal.nD,
      m' ((c.tc : Thread Cert.XoReferenceIdeal.nD Cert.XoReferenceIdeal.τ).loc Cert.XoReferenceIdeal.main_arg0) = m ((c.tc : Thread Cert.XoIdeal.nD Cert.XoIdeal.τ).loc Cert.XoIdeal.main_arg0)
      ∧ m' ((c.tc : Thread Cert.XoReferenceIdeal.nD Cert.XoReferenceIdeal.τ).loc Cert.XoReferenceIdeal.main_arg1) = m ((c.tc : Thread Cert.XoIdeal.nD Cert.XoIdeal.τ).loc Cert.XoIdeal.main_arg1)
      ∧ m' ((c.tc : Thread Cert.XoReferenceIdeal.nD Cert.XoReferenceIdeal.τ).loc Cert.XoReferenceIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v1) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v1) = v0 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1)
          ∧ r.2.mem ((c.tc : Thread Cert.XoReferenceIdeal.nD Cert.XoReferenceIdeal.τ).loc Cert.XoReferenceIdeal.main_arg2) = m' ((c.tc : Thread Cert.XoReferenceIdeal.nD Cert.XoReferenceIdeal.τ).loc Cert.XoReferenceIdeal.main_arg2))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hOut : Cert.Out.Facts) (hOutIdeal : Cert.OutIdeal.Facts) (hOutReferenceIdeal : Cert.OutReferenceIdeal.Facts) (hPq : Cert.Pq.Facts) (hPqIdeal : Cert.PqIdeal.Facts) (hPqReferenceIdeal : Cert.PqReferenceIdeal.Facts) (hKv : Cert.Kv.Facts) (hKvIdeal : Cert.KvIdeal.Facts) (hKvReferenceIdeal : Cert.KvReferenceIdeal.Facts) (hXq : Cert.Xq.Facts) (hXqIdeal : Cert.XqIdeal.Facts) (hXqReferenceIdeal : Cert.XqReferenceIdeal.Facts) (hXattn : Cert.Xattn.Facts) (hXattnIdeal : Cert.XattnIdeal.Facts) (hXattnReferenceIdeal : Cert.XattnReferenceIdeal.Facts) (hXo : Cert.Xo.Facts) (hXoIdeal : Cert.XoIdeal.Facts) (hXoReferenceIdeal : Cert.XoReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Out (hOut := hOut)
    ∧ quiescent_OutIdeal (hOutIdeal := hOutIdeal)
    ∧ quiescent_OutReferenceIdeal (hOutReferenceIdeal := hOutReferenceIdeal)
    ∧ quiescent_Pq (hPq := hPq)
    ∧ quiescent_PqIdeal (hPqIdeal := hPqIdeal)
    ∧ quiescent_PqReferenceIdeal (hPqReferenceIdeal := hPqReferenceIdeal)
    ∧ quiescent_Kv (hKv := hKv)
    ∧ quiescent_KvIdeal (hKvIdeal := hKvIdeal)
    ∧ quiescent_KvReferenceIdeal (hKvReferenceIdeal := hKvReferenceIdeal)
    ∧ quiescent_Xq (hXq := hXq)
    ∧ quiescent_XqIdeal (hXqIdeal := hXqIdeal)
    ∧ quiescent_XqReferenceIdeal (hXqReferenceIdeal := hXqReferenceIdeal)
    ∧ quiescent_Xattn (hXattn := hXattn)
    ∧ quiescent_XattnIdeal (hXattnIdeal := hXattnIdeal)
    ∧ quiescent_XattnReferenceIdeal (hXattnReferenceIdeal := hXattnReferenceIdeal)
    ∧ quiescent_Xo (hXo := hXo)
    ∧ quiescent_XoIdeal (hXoIdeal := hXoIdeal)
    ∧ quiescent_XoReferenceIdeal (hXoReferenceIdeal := hXoReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
    ∧ preserves_Out_OutIdeal
    ∧ algebraic_OutIdeal_OutReferenceIdeal (hOutIdeal := hOutIdeal) (hOutReferenceIdeal := hOutReferenceIdeal)
    ∧ preserves_Pq_PqIdeal
    ∧ algebraic_PqIdeal_PqReferenceIdeal (hPqIdeal := hPqIdeal) (hPqReferenceIdeal := hPqReferenceIdeal)
    ∧ preserves_Kv_KvIdeal
    ∧ algebraic_KvIdeal_KvReferenceIdeal (hKvIdeal := hKvIdeal) (hKvReferenceIdeal := hKvReferenceIdeal)
    ∧ preserves_Xq_XqIdeal
    ∧ algebraic_XqIdeal_XqReferenceIdeal (hXqIdeal := hXqIdeal) (hXqReferenceIdeal := hXqReferenceIdeal)
    ∧ preserves_Xattn_XattnIdeal
    ∧ algebraic_XattnIdeal_XattnReferenceIdeal (hXattnIdeal := hXattnIdeal) (hXattnReferenceIdeal := hXattnReferenceIdeal)
    ∧ preserves_Xo_XoIdeal
    ∧ algebraic_XoIdeal_XoReferenceIdeal (hXoIdeal := hXoIdeal) (hXoReferenceIdeal := hXoReferenceIdeal)
-- ==== Kernel.lean ====
abbrev S16384x4096 : Shape := ⟨2, ![16384, 4096]⟩
abbrev S4096 : Shape := ⟨1, ![4096]⟩
abbrev S8x128x16384 : Shape := ⟨3, ![8, 128, 16384]⟩
abbrev S1x4096 : Shape := ⟨2, ![1, 4096]⟩
abbrev S512x4096 : Shape := ⟨2, ![512, 4096]⟩
abbrev S8x128x512 : Shape := ⟨3, ![8, 128, 512]⟩
abbrev S512x512 : Shape := ⟨2, ![512, 512]⟩
abbrev S128x4096 : Shape := ⟨2, ![128, 4096]⟩
abbrev S128 : Shape := ⟨1, ![128]⟩
abbrev S128x1 : Shape := ⟨2, ![128, 1]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩

abbrev nBuf : Space → Nat
  | .hbm => 12
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S8x128x16384, .f32⟩
  | .hbm, ⟨5, _⟩ => ⟨S8x128x16384, .f32⟩
  | .hbm, ⟨6, _⟩ => ⟨S8x128x16384, .bf16⟩
  | .hbm, ⟨7, _⟩ => ⟨S8x128x16384, .bf16⟩
  | .hbm, ⟨8, _⟩ => ⟨S16384x4096, .bf16⟩
  | .hbm, ⟨9, _⟩ => ⟨S16384x4096, .bf16⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S512x4096, .f32⟩
  | .local _ .vmem, ⟨16, _⟩ => ⟨S512x4096, .bf16⟩
  | .local _ .vmem, ⟨17, _⟩ => ⟨S512x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![32, 32], ![false, false]⟩

def k0_off1 (i : grid0.Coords) (c0_i32_4 : BitVec 32) : Fin 3 → Nat :=
  let c0_6 : Index := 0#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v10 : Index := Scalar.indexCast v8
  let c0_7 : Index := 0#32
  ![0, v10.toNat, 0]
def k0_off2 (i : grid0.Coords) (c0_i32_4 : BitVec 32) : Fin 3 → Nat :=
  let c1 : Index := 1#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v29 : Index := Scalar.indexCast v8
  let c0_17 : Index := 0#32
  ![1, v29.toNat, 0]
def k0_off3 (i : grid0.Coords) (c0_i32_4 : BitVec 32) : Fin 3 → Nat :=
  let c2 : Index := 2#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v48 : Index := Scalar.indexCast v8
  let c0_27 : Index := 0#32
  ![2, v48.toNat, 0]
def k0_off4 (i : grid0.Coords) (c0_i32_4 : BitVec 32) : Fin 3 → Nat :=
  let c3 : Index := 3#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v67 : Index := Scalar.indexCast v8
  let c0_37 : Index := 0#32
  ![3, v67.toNat, 0]
def k0_off5 (i : grid0.Coords) (c0_i32_4 : BitVec 32) : Fin 3 → Nat :=
  let c4 : Index := 4#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v86 : Index := Scalar.indexCast v8
  let c0_47 : Index := 0#32
  ![4, v86.toNat, 0]
def k0_off6 (i : grid0.Coords) (c0_i32_4 : BitVec 32) : Fin 3 → Nat :=
  let c5 : Index := 5#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v105 : Index := Scalar.indexCast v8
  let c0_57 : Index := 0#32
  ![5, v105.toNat, 0]
def k0_off7 (i : grid0.Coords) (c0_i32_4 : BitVec 32) : Fin 3 → Nat :=
  let c6 : Index := 6#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v124 : Index := Scalar.indexCast v8
  let c0_67 : Index := 0#32
  ![6, v124.toNat, 0]
def k0_off8 (i : grid0.Coords) (c0_i32_4 : BitVec 32) : Fin 3 → Nat :=
  let c7 : Index := 7#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v143 : Index := Scalar.indexCast v8
  let c0_77 : Index := 0#32
  ![7, v143.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S16384x4096 : Shape := ⟨2, ![16384, 4096]⟩
abbrev S4096 : Shape := ⟨1, ![4096]⟩
abbrev S8x128x16384 : Shape := ⟨3, ![8, 128, 16384]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x16384 : Shape := ⟨2, ![4096, 16384]⟩
abbrev S16384x16384 : Shape := ⟨2, ![16384, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S128x128x16384 : Shape := ⟨3, ![128, 128, 16384]⟩

abbrev nBuf : Space → Nat
  | .hbm => 58
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S8x128x16384, .f32⟩
  | .hbm, ⟨5, _⟩ => ⟨S8x128x16384, .f32⟩
  | .hbm, ⟨6, _⟩ => ⟨S8x128x16384, .bf16⟩
  | .hbm, ⟨7, _⟩ => ⟨S8x128x16384, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S4096x16384, .f32⟩
  | .hbm, ⟨25, _⟩ => ⟨S16384x16384, .f32⟩
  | .hbm, ⟨26, _⟩ => ⟨S_, .f32⟩
  | .hbm, ⟨27, _⟩ => ⟨S16384x16384, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S16384x16384, .f32⟩
  | .hbm, ⟨35, _⟩ => ⟨S8x128x16384, .f32⟩
  | .hbm, ⟨36, _⟩ => ⟨S8x1x128x16384, .f32⟩
  | .hbm, ⟨37, _⟩ => ⟨S8x128x1x16384, .f32⟩
  | .hbm, ⟨38, _⟩ => ⟨S8x128x128x16384, .f32⟩
  | .hbm, ⟨39, _⟩ => ⟨S8x128x128x16384, .f32⟩
  | .hbm, ⟨40, _⟩ => ⟨S8x128x128x16384, .i1⟩
  | .hbm, ⟨41, _⟩ => ⟨S8x128x1x16384, .f32⟩
  | .hbm, ⟨42, _⟩ => ⟨S8x128x16384, .f32⟩
  | .hbm, ⟨43, _⟩ => ⟨S8x1x128x16384, .f32⟩
  | .hbm, ⟨44, _⟩ => ⟨S8x128x128x16384, .f32⟩
  | .hbm, ⟨45, _⟩ => ⟨S8x128x128x16384, .f32⟩
  | .hbm, ⟨46, _⟩ => ⟨S8x128x128x16384, .f32⟩
  | .hbm, ⟨47, _⟩ => ⟨S_, .f32⟩
  | .hbm, ⟨48, _⟩ => ⟨S_, .f32⟩
  | .hbm, ⟨49, _⟩ => ⟨S8x128x128x16384, .f32⟩
  | .hbm, ⟨50, _⟩ => ⟨S8x128x128x16384, .f32⟩
  | .hbm, ⟨51, _⟩ => ⟨S_, .f32⟩
  | .hbm, ⟨52, _⟩ => ⟨S128x128x16384, .f32⟩
  | .hbm, ⟨53, _⟩ => ⟨S16384x16384, .f32⟩
  | .hbm, ⟨54, _⟩ => ⟨S16384x16384, .f32⟩
  | .hbm, ⟨55, _⟩ => ⟨S16384x16384, .f32⟩
  | .hbm, ⟨56, _⟩ => ⟨S16384x4096, .f32⟩
  | .hbm, ⟨57, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Qkv.lean ====
abbrev S4x4096x4096 : Shape := ⟨3, ![4, 4096, 4096]⟩
abbrev S4096 : Shape := ⟨1, ![4096]⟩
abbrev S4096x12288 : Shape := ⟨2, ![4096, 12288]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S_ : Shape := ⟨0, ![]⟩
abbrev S8192 : Shape := ⟨1, ![8192]⟩
abbrev S12288 : Shape := ⟨1, ![12288]⟩
abbrev S16384x4096 : Shape := ⟨2, ![16384, 4096]⟩
abbrev S1x4096 : Shape := ⟨2, ![1, 4096]⟩
abbrev S1x12288 : Shape := ⟨2, ![1, 12288]⟩
abbrev S4x96x4096x128 : Shape := ⟨4, ![4, 96, 4096, 128]⟩
abbrev S512x4096 : Shape := ⟨2, ![512, 4096]⟩
abbrev S4096x1024 : Shape := ⟨2, ![4096, 1024]⟩
abbrev S1x1024 : Shape := ⟨2, ![1, 1024]⟩
abbrev S1x8x512x128 : Shape := ⟨4, ![1, 8, 512, 128]⟩
abbrev S128x4096 : Shape := ⟨2, ![128, 4096]⟩
abbrev S128x1 : Shape := ⟨2, ![128, 1]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x12288, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S16x128, .f32⟩
  | .hbm, ⟨7, _⟩ => ⟨S2048, .f32⟩
  | .hbm, ⟨8, _⟩ => ⟨S1x128, .f32⟩
  | .hbm, ⟨9, _⟩ => ⟨S16x128, .f32⟩
  | .hbm, ⟨10, _⟩ => ⟨S2048, .f32⟩
  | .hbm, ⟨11, _⟩ => ⟨S_, .f32⟩
  | .hbm, ⟨12, _⟩ => ⟨S8192, .f32⟩
  | .hbm, ⟨13, _⟩ => ⟨S12288, .f32⟩
  | .hbm, ⟨14, _⟩ => ⟨S16384x4096, .f32⟩
  | .hbm, ⟨15, _⟩ => ⟨S4096x12288, .bf16⟩
  | .hbm, ⟨16, _⟩ => ⟨S1x4096, .f32⟩
  | .hbm, ⟨17, _⟩ => ⟨S1x12288, .f32⟩
  | .hbm, ⟨18, _⟩ => ⟨S4x96x4096x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x8x512x128, .f32⟩
  | .local _ .vmem, ⟨8, _⟩ => ⟨S1x8x512x128, .f32⟩
  | .local _ .vmem, ⟨9, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S4x4096x4096 : Shape := ⟨3, ![4, 4096, 4096]⟩
abbrev S4096 : Shape := ⟨1, ![4096]⟩
abbrev S4096x12288 : Shape := ⟨2, ![4096, 12288]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x12288 : Shape := ⟨3, ![4, 4096, 12288]⟩
abbrev S4x4096x96x128 : Shape := ⟨4, ![4, 4096, 96, 128]⟩
abbrev S4x96x4096x128 : Shape := ⟨4, ![4, 96, 4096, 128]⟩
abbrev S4x16x4096x128 : Shape := ⟨4, ![4, 16, 4096, 128]⟩
abbrev S4x16x4096 : Shape := ⟨3, ![4, 16, 4096]⟩
abbrev S4x16x4096x1 : Shape := ⟨4, ![4, 16, 4096, 1]⟩
abbrev S1x1x1x128 : Shape := ⟨4, ![1, 1, 1, 128]⟩
abbrev S4x64x4096x128 : Shape := ⟨4, ![4, 64, 4096, 128]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x12288, .f32⟩
  | .hbm, ⟨3, _⟩ => ⟨S128, .f32⟩
  | .hbm, ⟨4, _⟩ => ⟨S128, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x4096x12288, .f32⟩
  | .hbm, ⟨22, _⟩ => ⟨S4x4096x96x128, .f32⟩
  | .hbm, ⟨23, _⟩ => ⟨S4x96x4096x128, .f32⟩
  | .hbm, ⟨24, _⟩ => ⟨S4x16x4096x128, .f32⟩
  | .hbm, ⟨25, _⟩ => ⟨S4x16x4096x128, .f32⟩
  | .hbm, ⟨26, _⟩ => ⟨S_, .f32⟩
  | .hbm, ⟨27, _⟩ => ⟨S4x16x4096, .f32⟩
  | .hbm, ⟨28, _⟩ => ⟨S4x16x4096x1, .f32⟩
  | .hbm, ⟨29, _⟩ => ⟨S_, .f32⟩
  | .hbm, ⟨30, _⟩ => ⟨S4x16x4096x1, .f32⟩
  | .hbm, ⟨31, _⟩ => ⟨S4x16x4096x1, .f32⟩
  | .hbm, ⟨32, _⟩ => ⟨S_, .f32⟩
  | .hbm, ⟨33, _⟩ => ⟨S4x16x4096x1, .f32⟩
  | .hbm, ⟨34, _⟩ => ⟨S4x16x4096x1, .f32⟩
  | .hbm, ⟨35, _⟩ => ⟨S4x16x4096x1, .f32⟩
  | .hbm, ⟨36, _⟩ => ⟨S4x16x4096x128, .f32⟩
  | .hbm, ⟨37, _⟩ => ⟨S4x16x4096x128, .f32⟩
  | .hbm, ⟨38, _⟩ => ⟨S1x1x1x128, .f32⟩
  | .hbm, ⟨39, _⟩ => ⟨S4x16x4096x128, .f32⟩
  | .hbm, ⟨40, _⟩ => ⟨S4x16x4096x128, .f32⟩
  | .hbm, ⟨41, _⟩ => ⟨S4x16x4096x128, .f32⟩
  | .hbm, ⟨42, _⟩ => ⟨S4x16x4096x128, .f32⟩
  | .hbm, ⟨43, _⟩ => ⟨S_, .f32⟩
  | .hbm, ⟨44, _⟩ => ⟨S4x16x4096, .f32⟩
  | .hbm, ⟨45, _⟩ => ⟨S4x16x4096x1, .f32⟩
  | .hbm, ⟨46, _⟩ => ⟨S_, .f32⟩
  | .hbm, ⟨47, _⟩ => ⟨S4x16x4096x1, .f32⟩
  | .hbm, ⟨48, _⟩ => ⟨S4x16x4096x1, .f32⟩
  | .hbm, ⟨49, _⟩ => ⟨S_, .f32⟩
  | .hbm, ⟨50, _⟩ => ⟨S4x16x4096x1, .f32⟩
  | .hbm, ⟨51, _⟩ => ⟨S4x16x4096x1, .f32⟩
  | .hbm, ⟨52, _⟩ => ⟨S4x16x4096x1, .f32⟩
  | .hbm, ⟨53, _⟩ => ⟨S4x16x4096x128, .f32⟩
  | .hbm, ⟨54, _⟩ => ⟨S4x16x4096x128, .f32⟩
  | .hbm, ⟨55, _⟩ => ⟨S1x1x1x128, .f32⟩
  | .hbm, ⟨56, _⟩ => ⟨S4x16x4096x128, .f32⟩
  | .hbm, ⟨57, _⟩ => ⟨S4x16x4096x128, .f32⟩
  | .hbm, ⟨58, _⟩ => ⟨S4x64x4096x128, .f32⟩
  | .hbm, ⟨59, _⟩ => ⟨S4x96x4096x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Out.lean ====
abbrev S16384x2048 : Shape := ⟨2, ![16384, 2048]⟩
abbrev S2048 : Shape := ⟨1, ![2048]⟩
abbrev S4096x4096 : Shape := ⟨2, ![4096, 4096]⟩
abbrev S16384x4096 : Shape := ⟨2, ![16384, 4096]⟩
abbrev S1x2048 : Shape := ⟨2, ![1, 2048]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩
abbrev S128x2048 : Shape := ⟨2, ![128, 2048]⟩
abbrev S128 : Shape := ⟨1, ![128]⟩
abbrev S128x1 : Shape := ⟨2, ![128, 1]⟩
abbrev S512x128 : Shape := ⟨2, ![512, 128]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S16384x4096, .f32⟩
  | .hbm, ⟨6, _⟩ => ⟨S4096x4096, .bf16⟩
  | .hbm, ⟨7, _⟩ => ⟨S1x2048, .f32⟩
  | .hbm, ⟨8, _⟩ => ⟨S1x2048, .f32⟩
  | .hbm, ⟨9, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S4096x1024, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutReferenceIdeal.lean ====
abbrev S16384x2048 : Shape := ⟨2, ![16384, 2048]⟩
abbrev S2048 : Shape := ⟨1, ![2048]⟩
abbrev S4096x4096 : Shape := ⟨2, ![4096, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S16384x4096, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x4096, .f32⟩
  | .hbm, ⟨39, _⟩ => ⟨S16384x4096, .f32⟩
  | .hbm, ⟨40, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Pq.lean ====
abbrev S16384x4096 : Shape := ⟨2, ![16384, 4096]⟩
abbrev S4096 : Shape := ⟨1, ![4096]⟩
abbrev S4096x2048 : Shape := ⟨2, ![4096, 2048]⟩
abbrev S1x4096 : Shape := ⟨2, ![1, 4096]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩
abbrev S128x4096 : Shape := ⟨2, ![128, 4096]⟩
abbrev S128 : Shape := ⟨1, ![128]⟩
abbrev S128x1 : Shape := ⟨2, ![128, 1]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x2048, .f32⟩
  | .hbm, ⟨3, _⟩ => ⟨S4096x2048, .bf16⟩
  | .hbm, ⟨4, _⟩ => ⟨S1x4096, .f32⟩
  | .hbm, ⟨5, _⟩ => ⟨S16384x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PqReferenceIdeal.lean ====
abbrev S16384x4096 : Shape := ⟨2, ![16384, 4096]⟩
abbrev S4096 : Shape := ⟨1, ![4096]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x2048, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kv.lean ====
abbrev S1024x4096 : Shape := ⟨2, ![1024, 4096]⟩
abbrev S4096 : Shape := ⟨1, ![4096]⟩
abbrev S4096x1024 : Shape := ⟨2, ![4096, 1024]⟩
abbrev S128 : Shape := ⟨1, ![128]⟩
abbrev S1x128 : Shape := ⟨2, ![1, 128]⟩
abbrev S4x128 : Shape := ⟨2, ![4, 128]⟩
abbrev S512 : Shape := ⟨1, ![512]⟩
abbrev S_ : Shape := ⟨0, ![]⟩
abbrev S1024 : Shape := ⟨1, ![1024]⟩
abbrev S1x4096 : Shape := ⟨2, ![1, 4096]⟩
abbrev S1x1024 : Shape := ⟨2, ![1, 1024]⟩
abbrev S1024x1024 : Shape := ⟨2, ![1024, 1024]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩
abbrev S128x4096 : Shape := ⟨2, ![128, 4096]⟩
abbrev S128x1 : Shape := ⟨2, ![128, 1]⟩
abbrev S512x128 : Shape := ⟨2, ![512, 128]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x1024, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1024, .f32⟩
  | .hbm, ⟨10, _⟩ => ⟨S4096x1024, .bf16⟩
  | .hbm, ⟨11, _⟩ => ⟨S1x4096, .f32⟩
  | .hbm, ⟨12, _⟩ => ⟨S1x1024, .f32⟩
  | .hbm, ⟨13, _⟩ => ⟨S1024x1024, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KvReferenceIdeal.lean ====
abbrev S1024x4096 : Shape := ⟨2, ![1024, 4096]⟩
abbrev S4096 : Shape := ⟨1, ![4096]⟩
abbrev S4096x1024 : Shape := ⟨2, ![4096, 1024]⟩
abbrev S128 : Shape := ⟨1, ![128]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x1024 : Shape := ⟨2, ![1024, 1024]⟩
abbrev S1024x512 : Shape := ⟨2, ![1024, 512]⟩
abbrev S1024x4x128 : Shape := ⟨3, ![1024, 4, 128]⟩
abbrev S1024x4 : Shape := ⟨2, ![1024, 4]⟩
abbrev S1024x4x1 : Shape := ⟨3, ![1024, 4, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x1024, .f32⟩
  | .hbm, ⟨3, _⟩ => ⟨S128, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x4096, .f32⟩
  | .hbm, ⟨16, _⟩ => ⟨S1024x4096, .f32⟩
  | .hbm, ⟨17, _⟩ => ⟨S1x4096, .f32⟩
  | .hbm, ⟨18, _⟩ => ⟨S1024x4096, .f32⟩
  | .hbm, ⟨19, _⟩ => ⟨S1024x4096, .f32⟩
  | .hbm, ⟨20, _⟩ => ⟨S1024x1024, .f32⟩
  | .hbm, ⟨21, _⟩ => ⟨S1024x512, .f32⟩
  | .hbm, ⟨22, _⟩ => ⟨S1024x4x128, .f32⟩
  | .hbm, ⟨23, _⟩ => ⟨S1024x4x128, .f32⟩
  | .hbm, ⟨24, _⟩ => ⟨S_, .f32⟩
  | .hbm, ⟨25, _⟩ => ⟨S1024x4, .f32⟩
  | .hbm, ⟨26, _⟩ => ⟨S1024x4x1, .f32⟩
  | .hbm, ⟨27, _⟩ => ⟨S_, .f32⟩
  | .hbm, ⟨28, _⟩ => ⟨S1024x4x1, .f32⟩
  | .hbm, ⟨29, _⟩ => ⟨S1024x4x1, .f32⟩
  | .hbm, ⟨30, _⟩ => ⟨S_, .f32⟩
  | .hbm, ⟨31, _⟩ => ⟨S1024x4x1, .f32⟩
  | .hbm, ⟨32, _⟩ => ⟨S1024x4x1, .f32⟩
  | .hbm, ⟨33, _⟩ => ⟨S1024x4x1, .f32⟩
  | .hbm, ⟨34, _⟩ => ⟨S1024x4x128, .f32⟩
  | .hbm, ⟨35, _⟩ => ⟨S1024x4x128, .f32⟩
  | .hbm, ⟨36, _⟩ => ⟨S1x1x128, .f32⟩
  | .hbm, ⟨37, _⟩ => ⟨S1024x4x128, .f32⟩
  | .hbm, ⟨38, _⟩ => ⟨S1024x4x128, .f32⟩
  | .hbm, ⟨39, _⟩ => ⟨S1024x512, .f32⟩
  | .hbm, ⟨40, _⟩ => ⟨S1024x512, .f32⟩
  | .hbm, ⟨41, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Xq.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x4096 : Shape := ⟨2, ![1, 4096]⟩
abbrev S1x512 : Shape := ⟨2, ![1, 512]⟩
abbrev S16384x512 : Shape := ⟨2, ![16384, 512]⟩
abbrev S512x4096 : Shape := ⟨2, ![512, 4096]⟩
abbrev S512x512 : Shape := ⟨2, ![512, 512]⟩
abbrev S128x4096 : Shape := ⟨2, ![128, 4096]⟩
abbrev S128x1 : Shape := ⟨2, ![128, 1]⟩
abbrev S512x128 : Shape := ⟨2, ![512, 128]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S4096x512, .bf16⟩
  | .hbm, ⟨5, _⟩ => ⟨S1x128, .f32⟩
  | .hbm, ⟨6, _⟩ => ⟨S4x128, .f32⟩
  | .hbm, ⟨7, _⟩ => ⟨S512, .f32⟩
  | .hbm, ⟨8, _⟩ => ⟨S1x4096, .f32⟩
  | .hbm, ⟨9, _⟩ => ⟨S1x512, .f32⟩
  | .hbm, ⟨10, _⟩ => ⟨S16384x512, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XqReferenceIdeal.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x512, .f32⟩
  | .hbm, ⟨21, _⟩ => ⟨S16384x4x128, .f32⟩
  | .hbm, ⟨22, _⟩ => ⟨S16384x4x128, .f32⟩
  | .hbm, ⟨23, _⟩ => ⟨S_, .f32⟩
  | .hbm, ⟨24, _⟩ => ⟨S16384x4, .f32⟩
  | .hbm, ⟨25, _⟩ => ⟨S16384x4x1, .f32⟩
  | .hbm, ⟨26, _⟩ => ⟨S_, .f32⟩
  | .hbm, ⟨27, _⟩ => ⟨S16384x4x1, .f32⟩
  | .hbm, ⟨28, _⟩ => ⟨S16384x4x1, .f32⟩
  | .hbm, ⟨29, _⟩ => ⟨S_, .f32⟩
  | .hbm, ⟨30, _⟩ => ⟨S16384x4x1, .f32⟩
  | .hbm, ⟨31, _⟩ => ⟨S16384x4x1, .f32⟩
  | .hbm, ⟨32, _⟩ => ⟨S16384x4x1, .f32⟩
  | .hbm, ⟨33, _⟩ => ⟨S16384x4x128, .f32⟩
  | .hbm, ⟨34, _⟩ => ⟨S16384x4x128, .f32⟩
  | .hbm, ⟨35, _⟩ => ⟨S1x1x128, .f32⟩
  | .hbm, ⟨36, _⟩ => ⟨S16384x4x128, .f32⟩
  | .hbm, ⟨37, _⟩ => ⟨S16384x4x128, .f32⟩
  | .hbm, ⟨38, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Xattn.lean ====
abbrev S4x4096x512 : Shape := ⟨3, ![4, 4096, 512]⟩
abbrev S4x256x1024 : Shape := ⟨3, ![4, 256, 1024]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .f32⟩
  | .hbm, ⟨1, _⟩ => ⟨S4x256x1024, .f32⟩
  | .hbm, ⟨2, _⟩ => ⟨S4x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x512x512, .f32⟩
  | .local _ .vmem, ⟨5, _⟩ => ⟨S1x512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XattnReferenceIdeal.lean ====
abbrev S4x4096x512 : Shape := ⟨3, ![4, 4096, 512]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4096x4x128 : Shape := ⟨4, ![4, 4096, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x1024, .f32⟩
  | .hbm, ⟨2, _⟩ => ⟨S4x256x512, .f32⟩
  | .hbm, ⟨3, _⟩ => ⟨S4x256x4x128, .f32⟩
  | .hbm, ⟨4, _⟩ => ⟨S4x256x512, .f32⟩
  | .hbm, ⟨5, _⟩ => ⟨S4x256x4x128, .f32⟩
  | .hbm, ⟨6, _⟩ => ⟨S4x4096x4x128, .f32⟩
  | .hbm, ⟨7, _⟩ => ⟨S4x4x4096x256, .f32⟩
  | .hbm, ⟨8, _⟩ => ⟨S_, .f32⟩
  | .hbm, ⟨9, _⟩ => ⟨S4x4x4096x256, .f32⟩
  | .hbm, ⟨10, _⟩ => ⟨S4x4x4096x256, .f32⟩
  | .hbm, ⟨11, _⟩ => ⟨S_, .f32⟩
  | .hbm, ⟨12, _⟩ => ⟨S4x4x4096, .f32⟩
  | .hbm, ⟨13, _⟩ => ⟨S_, .f32⟩
  | .hbm, ⟨14, _⟩ => ⟨S4x4x4096, .f32⟩
  | .hbm, ⟨15, _⟩ => ⟨S4x4x4096, .f32⟩
  | .hbm, ⟨16, _⟩ => ⟨S4x4x4096x1, .f32⟩
  | .hbm, ⟨17, _⟩ => ⟨S4x4x4096x256, .f32⟩
  | .hbm, ⟨18, _⟩ => ⟨S4x4x4096x256, .f32⟩
  | .hbm, ⟨19, _⟩ => ⟨S4x4x4096x256, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x256, .f32⟩
  | .hbm, ⟨24, _⟩ => ⟨S4x4x4096x256, .f32⟩
  | .hbm, ⟨25, _⟩ => ⟨S4x4x128x4096, .f32⟩
  | .hbm, ⟨26, _⟩ => ⟨S4x4096x4x128, .f32⟩
  | .hbm, ⟨27, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Xo.lean ====
abbrev S16384x512 : Shape := ⟨2, ![16384, 512]⟩
abbrev S512x4096 : Shape := ⟨2, ![512, 4096]⟩
abbrev S16384x4096 : Shape := ⟨2, ![16384, 4096]⟩
abbrev S512x512 : Shape := ⟨2, ![512, 512]⟩
abbrev S128x512 : Shape := ⟨2, ![128, 512]⟩
abbrev S512x128 : Shape := ⟨2, ![512, 128]⟩

abbrev nBuf : Space → Nat
  | .hbm => 5
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x4096, .f32⟩
  | .hbm, ⟨2, _⟩ => ⟨S16384x4096, .f32⟩
  | .hbm, ⟨3, _⟩ => ⟨S512x4096, .bf16⟩
  | .hbm, ⟨4, _⟩ => ⟨S16384x4096, .f32⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | .local _ .vmem, ⟨7, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XoReferenceIdeal.lean ====
abbrev S16384x512 : Shape := ⟨2, ![16384, 512]⟩
abbrev S512x4096 : Shape := ⟨2, ![512, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x4096, .f32⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.PeerBlock.lean ====
/- One grid point of the routed feed-forward kernel: what it leaves in its output block and in the scratch that
   carries the normalised rows, as functions of its input blocks. -/
module
public import proofs.«01_k».proof.Proof.Gen.KernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.KernelIdeal.Peer
open Cert.KernelIdeal Cert.KernelIdeal.Gen
variable (m : (ℓ : Loc nD τ sig) → Buf (Elt Ideal) ℓ)

/-- A load of a whole buffer at zero offsets reads what the stores left. -/
theorem read_all {s : Shape} {e : EltTy} {κ : Kind} {sp : Space} (v : View sig κ sp s e) (L : List (View.Piece (Elt Ideal) s e))
    {off : Fin s.rank → ℕ} (inb : ∀ a, off a + s.size a ≤ s.size a) :
    v.readCov L (Rect.unit off s.size inb).toLoadRect = View.canon L := by
  have h : off = fun _ => 0 := funext fun a => by have := inb a; omega
  subst h
  rw [View.readCov_eq_canon']
  funext j
  congr 1
  funext a
  exact Fin.ext (by show 0 + 1 * (j a).val = (j a).val; omega)

/-- A carried scratch buffer, read whole, is what the point before left in it. -/
theorem read_whole (b : Ref sig .tc) (h : (Memref.whole b).IsWhole) (X : b.ty.shape.Idx → Elt Ideal b.ty.elt) :
    View.read (Elt Ideal) (View.whole b) (h.unread X) = X :=
  h.read_unread X

/-- The inner grid coordinate of a point: its number modulo 32. -/
theorem coord_1 : ∀ t : Fin cfg0.N, (grid0.coords t 1).val = t.val % 32 :=
  (by decide +kernel : ∀ t : Fin grid0.N, _)

/-- The row of the count and weight tables a group reads, computed in words: four times the inner coordinate plus the group. -/
theorem row_word : ∀ (q : Fin 32) (g : Fin 4), (Scalar.indexCast (Scalar.addi (Scalar.muli (BitVec.ofNat 32 q.val) 4#32) (BitVec.ofNat 32 g.val)) : Index).toNat = 4 * q.val + g.val := by
  decide +kernel

/-- Where group `g` reads head 0's row of the count and weight tables. -/
theorem off_1 (t : Fin cfg0.N) (g : Fin 4) : k0_off1 (grid0.coords t) (BitVec.ofNat 32 g.val) = ![0, 4 * (t.val % 32) + g.val, 0] := by
  have h := row_word ⟨t.val % 32, Nat.mod_lt _ (by decide)⟩ g
  show ![0, (Scalar.indexCast (Scalar.addi (Scalar.muli (BitVec.ofNat 32 (grid0.coords t 1).val) 4#32) (BitVec.ofNat 32 g.val)) : Index).toNat, 0] = _
  rw [coord_1 t, h]

/-- Where group `g` reads head 1's row of the count and weight tables. -/
theorem off_2 (t : Fin cfg0.N) (g : Fin 4) : k0_off2 (grid0.coords t) (BitVec.ofNat 32 g.val) = ![1, 4 * (t.val % 32) + g.val, 0] := by
  have h := row_word ⟨t.val % 32, Nat.mod_lt _ (by decide)⟩ g
  show ![1, (Scalar.indexCast (Scalar.addi (Scalar.muli (BitVec.ofNat 32 (grid0.coords t 1).val) 4#32) (BitVec.ofNat 32 g.val)) : Index).toNat, 0] = _
  rw [coord_1 t, h]

/-- Where group `g` reads head 2's row of the count and weight tables. -/
theorem off_3 (t : Fin cfg0.N) (g : Fin 4) : k0_off3 (grid0.coords t) (BitVec.ofNat 32 g.val) = ![2, 4 * (t.val % 32) + g.val, 0] := by
  have h := row_word ⟨t.val % 32, Nat.mod_lt _ (by decide)⟩ g
  show ![2, (Scalar.indexCast (Scalar.addi (Scalar.muli (BitVec.ofNat 32 (grid0.coords t 1).val) 4#32) (BitVec.ofNat 32 g.val)) : Index).toNat, 0] = _
  rw [coord_1 t, h]

/-- Where group `g` reads head 3's row of the count and weight tables. -/
theorem off_4 (t : Fin cfg0.N) (g : Fin 4) : k0_off4 (grid0.coords t) (BitVec.ofNat 32 g.val) = ![3, 4 * (t.val % 32) + g.val, 0] := by
  have h := row_word ⟨t.val % 32, Nat.mod_lt _ (by decide)⟩ g
  show ![3, (Scalar.indexCast (Scalar.addi (Scalar.muli (BitVec.ofNat 32 (grid0.coords t 1).val) 4#32) (BitVec.ofNat 32 g.val)) : Index).toNat, 0] = _
  rw [coord_1 t, h]

/-- Where group `g` reads head 4's row of the count and weight tables. -/
theorem off_5 (t : Fin cfg0.N) (g : Fin 4) : k0_off5 (grid0.coords t) (BitVec.ofNat 32 g.val) = ![4, 4 * (t.val % 32) + g.val, 0] := by
  have h := row_word ⟨t.val % 32, Nat.mod_lt _ (by decide)⟩ g
  show ![4, (Scalar.indexCast (Scalar.addi (Scalar.muli (BitVec.ofNat 32 (grid0.coords t 1).val) 4#32) (BitVec.ofNat 32 g.val)) : Index).toNat, 0] = _
  rw [coord_1 t, h]

/-- Where group `g` reads head 5's row of the count and weight tables. -/
theorem off_6 (t : Fin cfg0.N) (g : Fin 4) : k0_off6 (grid0.coords t) (BitVec.ofNat 32 g.val) = ![5, 4 * (t.val % 32) + g.val, 0] := by
  have h := row_word ⟨t.val % 32, Nat.mod_lt _ (by decide)⟩ g
  show ![5, (Scalar.indexCast (Scalar.addi (Scalar.muli (BitVec.ofNat 32 (grid0.coords t 1).val) 4#32) (BitVec.ofNat 32 g.val)) : Index).toNat, 0] = _
  rw [coord_1 t, h]

/-- Where group `g` reads head 6's row of the count and weight tables. -/
theorem off_7 (t : Fin cfg0.N) (g : Fin 4) : k0_off7 (grid0.coords t) (BitVec.ofNat 32 g.val) = ![6, 4 * (t.val % 32) + g.val, 0] := by
  have h := row_word ⟨t.val % 32, Nat.mod_lt _ (by decide)⟩ g
  show ![6, (Scalar.indexCast (Scalar.addi (Scalar.muli (BitVec.ofNat 32 (grid0.coords t 1).val) 4#32) (BitVec.ofNat 32 g.val)) : Index).toNat, 0] = _
  rw [coord_1 t, h]

/-- Where group `g` reads head 7's row of the count and weight tables. -/
theorem off_8 (t : Fin cfg0.N) (g : Fin 4) : k0_off8 (grid0.coords t) (BitVec.ofNat 32 g.val) = ![7, 4 * (t.val % 32) + g.val, 0] := by
  have h := row_word ⟨t.val % 32, Nat.mod_lt _ (by decide)⟩ g
  show ![7, (Scalar.indexCast (Scalar.addi (Scalar.muli (BitVec.ofNat 32 (grid0.coords t 1).val) 4#32) (BitVec.ofNat 32 g.val)) : Index).toNat, 0] = _
  rw [coord_1 t, h]

/-- The exact gelu in the kernel's form. -/
def gelu (a : EReal) : EReal :=
  Ideal.ofBits FTy.f32 1056964608#32 * a * (1 + FloatOps.erf (F := Ideal) (φ := .f32) (a * Ideal.ofBits FTy.f32 1060439283#32))

/-- The routing weight of expert `(a, b)` for token `n`: over the heads, the product of the two weights where the second key's rank is below the first key's count. -/
def route (C E : Vec Ideal S8x128x512 .f32) (R W : Vec Ideal S8x128x512 .bf16) (a b : Fin 128) (n : Fin 512) : EReal :=
  ∑ h : Fin 8, if R (ix3 h b n) < C (ix3 h a n) then W (ix3 h b n) * E (ix3 h a n) else 0

/-- The gate of the block's expert `k` and token `n`, at inner coordinate `q`. -/
def gate (U H : Vec Ideal S512x4096 .bf16) (C E : Vec Ideal S8x128x512 .f32) (R W : Vec Ideal S8x128x512 .bf16) (q : Fin 32) (k n : Fin 512) : EReal :=
  gelu (∑ d : Fin 4096, U (ix2 k d) * H (ix2 n d)) * route C E R W ⟨4 * q.val + k.val / 128, by omega⟩ ⟨k.val % 128, by omega⟩ n

/-- The final accumulation at an index: what was there, plus the gates against the second expert table. -/
theorem pay1_at (o : Vec Ideal S512x4096 .f32) (g : Vec Ideal S512x512 .bf16) (v : Vec Ideal S512x4096 .bf16) (y : S512x4096.Idx) :
    k0_pay1 (F := Ideal) o g v y = o y + ∑ k : Fin 512, g (ix2 k (y 0)) * v (ix2 k (y 1)) := by
  idx_vars y
  pointwise [k0_pay1]

/-- Four row tiles of 128 rows make up one function of the row. -/
theorem canon_rows_512 {e : EltTy} (f : Vec Ideal S512x512 e) (p0 p1 p2 p3 : Vec Ideal S128x512 e)
    (h0 : ∀ (a : Fin 128) (b : Fin 512), p0 (ix2 a b) = f (ix2 ⟨a.val, by omega⟩ b))
    (h1 : ∀ (a : Fin 128) (b : Fin 512), p1 (ix2 a b) = f (ix2 ⟨128 + a.val, by omega⟩ b))
    (h2 : ∀ (a : Fin 128) (b : Fin 512), p2 (ix2 a b) = f (ix2 ⟨256 + a.val, by omega⟩ b))
    (h3 : ∀ (a : Fin 128) (b : Fin 512), p3 (ix2 a b) = f (ix2 ⟨384 + a.val, by omega⟩ b)) :
    View.canon (Val := Elt Ideal) (s := S512x512) (e := e)
      [⟨Rect.unit (s := S512x512) ![384, 0] ![128, 512] inb_S512x512_S128x512_384_0, p3⟩, ⟨Rect.unit (s := S512x512) ![256, 0] ![128, 512] inb_S512x512_S128x512_256_0, p2⟩,
       ⟨Rect.unit (s := S512x512) ![128, 0] ![128, 512] inb_S512x512_S128x512_128_0, p1⟩, ⟨Rect.unit (s := S512x512) ![0, 0] ![128, 512] inb_S512x512_S128x512_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- The same over 4096 columns. -/
theorem canon_rows_4096 {e : EltTy} (f : Vec Ideal S512x4096 e) (p0 p1 p2 p3 : Vec Ideal S128x4096 e)
    (h0 : ∀ (a : Fin 128) (b : Fin 4096), p0 (ix2 a b) = f (ix2 ⟨a.val, by omega⟩ b))
    (h1 : ∀ (a : Fin 128) (b : Fin 4096), p1 (ix2 a b) = f (ix2 ⟨128 + a.val, by omega⟩ b))
    (h2 : ∀ (a : Fin 128) (b : Fin 4096), p2 (ix2 a b) = f (ix2 ⟨256 + a.val, by omega⟩ b))
    (h3 : ∀ (a : Fin 128) (b : Fin 4096), p3 (ix2 a b) = f (ix2 ⟨384 + a.val, by omega⟩ b)) :
    View.canon (Val := Elt Ideal) (s := S512x4096) (e := e)
      [⟨Rect.unit (s := S512x4096) ![384, 0] ![128, 4096] inb_S512x4096_S128x4096_384_0, p3⟩, ⟨Rect.unit (s := S512x4096) ![256, 0] ![128, 4096] inb_S512x4096_S128x4096_256_0, p2⟩,
       ⟨Rect.unit (s := S512x4096) ![128, 0] ![128, 4096] inb_S512x4096_S128x4096_128_0, p1⟩, ⟨Rect.unit (s := S512x4096) ![0, 0] ![128, 4096] inb_S512x4096_S128x4096_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- The accumulation over a gate buffer stored as four row tiles. -/
theorem step_at (o : Vec Ideal S512x4096 .f32) (v : Vec Ideal S512x4096 .bf16) (f : Fin 512 → Fin 512 → EReal) (p0 p1 p2 p3 : Vec Ideal S128x512 .bf16)
    (h0 : ∀ (a : Fin 128) (b : Fin 512), p0 (ix2 a b) = f ⟨a.val, by omega⟩ b)
    (h1 : ∀ (a : Fin 128) (b : Fin 512), p1 (ix2 a b) = f ⟨128 + a.val, by omega⟩ b)
    (h2 : ∀ (a : Fin 128) (b : Fin 512), p2 (ix2 a b) = f ⟨256 + a.val, by omega⟩ b)
    (h3 : ∀ (a : Fin 128) (b : Fin 512), p3 (ix2 a b) = f ⟨384 + a.val, by omega⟩ b) (r : Fin 512) (l : Fin 4096) :
    k0_pay1 (F := Ideal) o ((View.whole cc0_scratch1).readCov (Val := Elt Ideal)
      [⟨Rect.unit (s := S512x512) ![384, 0] ![128, 512] inb_S512x512_S128x512_384_0, p3⟩, ⟨Rect.unit (s := S512x512) ![256, 0] ![128, 512] inb_S512x512_S128x512_256_0, p2⟩,
       ⟨Rect.unit (s := S512x512) ![128, 0] ![128, 512] inb_S512x512_S128x512_128_0, p1⟩, ⟨Rect.unit (s := S512x512) ![0, 0] ![128, 512] inb_S512x512_S128x512_0_0, p0⟩]
      (Rect.unit (s := S512x512) ![0, 0] ![512, 512] inb_S512x512_S512x512_0_0).toLoadRect) v (ix2 r l)
      = o (ix2 r l) + ∑ k : Fin 512, f k r * v (ix2 k l) := by
  refine (congrArg (fun g => k0_pay1 (F := Ideal) o g v (ix2 r l)) ((read_all (View.whole cc0_scratch1) _ inb_S512x512_S512x512_0_0).trans
    (canon_rows_512 (fun z => f (z 0) (z 1)) p0 p1 p2 p3 h0 h1 h2 h3))).trans ?_
  rw [pay1_at]
  rfl

/-- A gate by its group and its place in the group. -/
theorem gate_at (U H : Vec Ideal S512x4096 .bf16) (C E : Vec Ideal S8x128x512 .f32) (R W : Vec Ideal S8x128x512 .bf16) (q : Fin 32) (g : Fin 4) (a : Fin 128) (n : Fin 512)
    (k : Fin 512) (hk : k.val = 128 * g.val + a.val) :
    gate U H C E R W q k n = gelu (∑ d : Fin 4096, U (ix2 k d) * H (ix2 n d)) * route C E R W ⟨4 * q.val + g.val, by omega⟩ a n := by
  have h1 : (⟨4 * q.val + k.val / 128, by omega⟩ : Fin 128) = ⟨4 * q.val + g.val, by omega⟩ := Fin.ext (by show 4 * q.val + k.val / 128 = 4 * q.val + g.val; omega)
  have h2 : (⟨k.val % 128, by omega⟩ : Fin 128) = a := Fin.ext (by show k.val % 128 = a.val; omega)
  unfold gate
  rw [h1, h2]

/-- The block's rows, divided by their root mean square and scaled. -/
def normed (X : Vec Ideal S512x4096 .f32) (G : Vec Ideal S1x4096 .f32) : Vec Ideal S512x4096 .bf16 := fun y =>
  X y * Ideal.rsqrt (Ideal.div (∑ d : Fin 4096, X (ix2 (y 0) d) * X (ix2 (y 0) d)) (Ideal.ofBits FTy.f32 1166016512#32)
    + Ideal.ofBits FTy.f32 897988541#32) * G (ix2 0 (y 1))

/-- The scratch the first point of a run fills, four row tiles, is the normalised block. -/
theorem normed_rows (X : Vec Ideal S512x4096 .f32) (G : Vec Ideal S1x4096 .f32) :
    View.canon (Val := Elt Ideal) (s := S512x4096) (e := .bf16)
      [⟨Rect.unit (s := S512x4096) ![384, 0] ![128, 4096] inb_S512x4096_S128x4096_384_0, k0_pay8 (F := Ideal) (k0_pay6 (View.ld X (Rect.unit ![384, 0] ![128, 4096] inb_S512x4096_S128x4096_384_0))) (k0_pay7 G)⟩,
       ⟨Rect.unit (s := S512x4096) ![256, 0] ![128, 4096] inb_S512x4096_S128x4096_256_0, k0_pay5 (View.ld X (Rect.unit ![256, 0] ![128, 4096] inb_S512x4096_S128x4096_256_0)) G⟩,
       ⟨Rect.unit (s := S512x4096) ![128, 0] ![128, 4096] inb_S512x4096_S128x4096_128_0, k0_pay4 (k0_pay3 (View.ld X (Rect.unit ![128, 0] ![128, 4096] inb_S512x4096_S128x4096_128_0)) G)⟩,
       ⟨Rect.unit (s := S512x4096) ![0, 0] ![128, 4096] inb_S512x4096_S128x4096_0_0, k0_pay2 (View.ld X (Rect.unit ![0, 0] ![128, 4096] inb_S512x4096_S128x4096_0_0)) G⟩] = normed X G := by
  refine canon_rows_4096 _ _ _ _ _ ?_ ?_ ?_ ?_
  all_goals intro a b
  all_goals pointwise [k0_pay2, k0_pay3, k0_pay4, k0_pay5, k0_pay6, k0_pay7, k0_pay8, normed]

/-- The same, as the load that follows the stores reads it. -/
theorem normed_read (X : Vec Ideal S512x4096 .f32) (G : Vec Ideal S1x4096 .f32) :
    (View.whole cc0_scratch0).readCov (Val := Elt Ideal)
      [⟨Rect.unit (s := S512x4096) ![384, 0] ![128, 4096] inb_S512x4096_S128x4096_384_0, k0_pay8 (F := Ideal) (k0_pay6 (View.ld X (Rect.unit ![384, 0] ![128, 4096] inb_S512x4096_S128x4096_384_0))) (k0_pay7 G)⟩,
       ⟨Rect.unit (s := S512x4096) ![256, 0] ![128, 4096] inb_S512x4096_S128x4096_256_0, k0_pay5 (View.ld X (Rect.unit ![256, 0] ![128, 4096] inb_S512x4096_S128x4096_256_0)) G⟩,
       ⟨Rect.unit (s := S512x4096) ![128, 0] ![128, 4096] inb_S512x4096_S128x4096_128_0, k0_pay4 (k0_pay3 (View.ld X (Rect.unit ![128, 0] ![128, 4096] inb_S512x4096_S128x4096_128_0)) G)⟩,
       ⟨Rect.unit (s := S512x4096) ![0, 0] ![128, 4096] inb_S512x4096_S128x4096_0_0, k0_pay2 (View.ld X (Rect.unit ![0, 0] ![128, 4096] inb_S512x4096_S128x4096_0_0)) G⟩] (Rect.unit (s := S512x4096) ![0, 0] ![512, 4096] inb_S512x4096_S512x4096_0_0).toLoadRect = normed X G :=
  (read_all (View.whole cc0_scratch0) _ inb_S512x4096_S512x4096_0_0).trans (normed_rows X G)

/-- The first point of a run leaves the normalised block in the scratch. -/
theorem rows_first (c : Dev nD) (t : Fin cfg0.N) (h0 : t.val % 32 = 0) :
   (outsAt0 m c t.val t.isLt).2 = normed (iblk m c 0 t) (iblk m c 1 t) := by
  rw [outsAt0_A m c t h0]
  frame_out
  exact normed_rows _ _
/-- A later point leaves the scratch as it found it. -/
theorem rows_later (c : Dev nD) (t : Fin cfg0.N) (h0 : ¬t.val % 32 = 0) (hp : t.val - 1 < cfg0.N) :
   (outsAt0 m c t.val t.isLt).2 = (outsAt0 m c (t.val - 1) hp).2 := by
  rw [outsAt0_B m c t h0]
  unfold sout0_B_0
  rfl
/-- The first point of a run leaves the block of `x` plus its own experts' part in the output. -/
theorem sum_first (c : Dev nD) (t : Fin cfg0.N) (h0 : t.val % 32 = 0) (r : Fin 512) (l : Fin 4096) :
   (outsAt0 m c t.val t.isLt).1 (ix2 r l) = (show Vec Ideal S512x4096 .f32 from iblk m c 0 t) (ix2 r l)
     + ∑ k : Fin 512, gate (iblk m c 2 t) (normed (iblk m c 0 t) (iblk m c 1 t)) (iblk m c 4 t) (iblk m c 5 t) (iblk m c 6 t) (iblk m c 7 t) ⟨t.val % 32, Nat.mod_lt _ (by decide)⟩ k r
       * (show Vec Ideal S512x4096 .bf16 from iblk m c 3 t) (ix2 k l) := by
  rw [outsAt0_A m c t h0]
  frame_out
  refine (step_at _ _ (fun k r => gate (iblk m c 2 t) (normed (iblk m c 0 t) (iblk m c 1 t)) (iblk m c 4 t) (iblk m c 5 t) (iblk m c 6 t) (iblk m c 7 t) ⟨t.val % 32, Nat.mod_lt _ (by decide)⟩ k r) _ _ _ _ ?_ ?_ ?_ ?_ r l).trans ?_
  · intro a b
    rw [gate_at _ _ _ _ _ _ _ 0 a b _ (by show a.val = 128 * 0 + a.val; omega)]
    have e1 : k0_off1 (grid0.coords t) 0#32 = ![0, 4 * (t.val % 32) + 0, 0] := off_1 t 0
    have e2 : k0_off2 (grid0.coords t) 0#32 = ![1, 4 * (t.val % 32) + 0, 0] := off_2 t 0
    have e3 : k0_off3 (grid0.coords t) 0#32 = ![2, 4 * (t.val % 32) + 0, 0] := off_3 t 0
    have e4 : k0_off4 (grid0.coords t) 0#32 = ![3, 4 * (t.val % 32) + 0, 0] := off_4 t 0
    have e5 : k0_off5 (grid0.coords t) 0#32 = ![4, 4 * (t.val % 32) + 0, 0] := off_5 t 0
    have e6 : k0_off6 (grid0.coords t) 0#32 = ![5, 4 * (t.val % 32) + 0, 0] := off_6 t 0
    have e7 : k0_off7 (grid0.coords t) 0#32 = ![6, 4 * (t.val % 32) + 0, 0] := off_7 t 0
    have e8 : k0_off8 (grid0.coords t) 0#32 = ![7, 4 * (t.val % 32) + 0, 0] := off_8 t 0
    rw [normed_read]
    generalize grid0.coords t = i at *
    pointwise [k0_pay9, k0_pay10, k0_pay11, k0_pay12, k0_pay13, k0_pay14, k0_pay15, k0_pay16, k0_pay17, k0_pay18, gelu, route, Fin.sum_univ_eight, e1, e2, e3, e4, e5, e6, e7, e8]
  · intro a b
    rw [gate_at _ _ _ _ _ _ _ 1 a b _ (by rfl)]
    have e1 : k0_off1 (grid0.coords t) 1#32 = ![0, 4 * (t.val % 32) + 1, 0] := off_1 t 1
    have e2 : k0_off2 (grid0.coords t) 1#32 = ![1, 4 * (t.val % 32) + 1, 0] := off_2 t 1
    have e3 : k0_off3 (grid0.coords t) 1#32 = ![2, 4 * (t.val % 32) + 1, 0] := off_3 t 1
    have e4 : k0_off4 (grid0.coords t) 1#32 = ![3, 4 * (t.val % 32) + 1, 0] := off_4 t 1
    have e5 : k0_off5 (grid0.coords t) 1#32 = ![4, 4 * (t.val % 32) + 1, 0] := off_5 t 1
    have e6 : k0_off6 (grid0.coords t) 1#32 = ![5, 4 * (t.val % 32) + 1, 0] := off_6 t 1
    have e7 : k0_off7 (grid0.coords t) 1#32 = ![6, 4 * (t.val % 32) + 1, 0] := off_7 t 1
    have e8 : k0_off8 (grid0.coords t) 1#32 = ![7, 4 * (t.val % 32) + 1, 0] := off_8 t 1
    rw [normed_read]
    generalize grid0.coords t = i at *
    pointwise [k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, gelu, route, Fin.sum_univ_eight, e1, e2, e3, e4, e5, e6, e7, e8]
  · intro a b
    rw [gate_at _ _ _ _ _ _ _ 2 a b _ (by rfl)]
    have e1 : k0_off1 (grid0.coords t) 2#32 = ![0, 4 * (t.val % 32) + 2, 0] := off_1 t 2
    have e2 : k0_off2 (grid0.coords t) 2#32 = ![1, 4 * (t.val % 32) + 2, 0] := off_2 t 2
    have e3 : k0_off3 (grid0.coords t) 2#32 = ![2, 4 * (t.val % 32) + 2, 0] := off_3 t 2
    have e4 : k0_off4 (grid0.coords t) 2#32 = ![3, 4 * (t.val % 32) + 2, 0] := off_4 t 2
    have e5 : k0_off5 (grid0.coords t) 2#32 = ![4, 4 * (t.val % 32) + 2, 0] := off_5 t 2
    have e6 : k0_off6 (grid0.coords t) 2#32 = ![5, 4 * (t.val % 32) + 2, 0] := off_6 t 2
    have e7 : k0_off7 (grid0.coords t) 2#32 = ![6, 4 * (t.val % 32) + 2, 0] := off_7 t 2
    have e8 : k0_off8 (grid0.coords t) 2#32 = ![7, 4 * (t.val % 32) + 2, 0] := off_8 t 2
    rw [normed_read]
    generalize grid0.coords t = i at *
    pointwise [k0_pay9, k0_pay36, k0_pay37, k0_pay38, k0_pay39, k0_pay40, k0_pay41, k0_pay42, k0_pay43, k0_pay44, k0_pay45, k0_pay46, k0_pay47, k0_pay48, gelu, route, Fin.sum_univ_eight, e1, e2, e3, e4, e5, e6, e7, e8]
  · intro a b
    rw [gate_at _ _ _ _ _ _ _ 3 a b _ (by rfl)]
    have e1 : k0_off1 (grid0.coords t) 3#32 = ![0, 4 * (t.val % 32) + 3, 0] := off_1 t 3
    have e2 : k0_off2 (grid0.coords t) 3#32 = ![1, 4 * (t.val % 32) + 3, 0] := off_2 t 3
    have e3 : k0_off3 (grid0.coords t) 3#32 = ![2, 4 * (t.val % 32) + 3, 0] := off_3 t 3
    have e4 : k0_off4 (grid0.coords t) 3#32 = ![3, 4 * (t.val % 32) + 3, 0] := off_4 t 3
    have e5 : k0_off5 (grid0.coords t) 3#32 = ![4, 4 * (t.val % 32) + 3, 0] := off_5 t 3
    have e6 : k0_off6 (grid0.coords t) 3#32 = ![5, 4 * (t.val % 32) + 3, 0] := off_6 t 3
    have e7 : k0_off7 (grid0.coords t) 3#32 = ![6, 4 * (t.val % 32) + 3, 0] := off_7 t 3
    have e8 : k0_off8 (grid0.coords t) 3#32 = ![7, 4 * (t.val % 32) + 3, 0] := off_8 t 3
    rw [normed_read]
    generalize grid0.coords t = i at *
    pointwise [k0_pay9, k0_pay49, k0_pay50, k0_pay51, k0_pay52, k0_pay53, k0_pay54, k0_pay55, k0_pay56, k0_pay57, k0_pay58, k0_pay59, k0_pay60, k0_pay61, gelu, route, Fin.sum_univ_eight, e1, e2, e3, e4, e5, e6, e7, e8]
  · refine congrArg (· + _) ?_
    refine (congrFun ((read_all (ms0_8 t).view _ inb_S512x4096_S512x4096_0_0).trans
      (canon_rows_4096 (iblk m c 0 t) _ _ _ _ ?_ ?_ ?_ ?_)) (ix2 r l))
    all_goals intro a b
    all_goals pointwise

/-- A later point adds its experts' part to the output. -/
theorem sum_later (c : Dev nD) (t : Fin cfg0.N) (h0 : ¬t.val % 32 = 0) (hp : t.val - 1 < cfg0.N) (r : Fin 512) (l : Fin 4096) :
   (outsAt0 m c t.val t.isLt).1 (ix2 r l) = (outsAt0 m c (t.val - 1) hp).1 (ix2 r l)
     + ∑ k : Fin 512, gate (iblk m c 2 t) (outsAt0 m c (t.val - 1) hp).2 (iblk m c 4 t) (iblk m c 5 t) (iblk m c 6 t) (iblk m c 7 t) ⟨t.val % 32, Nat.mod_lt _ (by decide)⟩ k r
       * (show Vec Ideal S512x4096 .bf16 from iblk m c 3 t) (ix2 k l) := by
  rw [outsAt0_B m c t h0]
  frame_out
  simp only [read_whole]
  refine step_at _ _ (fun k r => gate (iblk m c 2 t) (outsAt0 m c (t.val - 1) hp).2 (iblk m c 4 t) (iblk m c 5 t) (iblk m c 6 t) (iblk m c 7 t) ⟨t.val % 32, Nat.mod_lt _ (by decide)⟩ k r) _ _ _ _ ?_ ?_ ?_ ?_ r l
  · intro a b
    rw [gate_at _ _ _ _ _ _ _ 0 a b _ (by show a.val = 128 * 0 + a.val; omega)]
    have e1 : k0_off1 (grid0.coords t) 0#32 = ![0, 4 * (t.val % 32) + 0, 0] := off_1 t 0
    have e2 : k0_off2 (grid0.coords t) 0#32 = ![1, 4 * (t.val % 32) + 0, 0] := off_2 t 0
    have e3 : k0_off3 (grid0.coords t) 0#32 = ![2, 4 * (t.val % 32) + 0, 0] := off_3 t 0
    have e4 : k0_off4 (grid0.coords t) 0#32 = ![3, 4 * (t.val % 32) + 0, 0] := off_4 t 0
    have e5 : k0_off5 (grid0.coords t) 0#32 = ![4, 4 * (t.val % 32) + 0, 0] := off_5 t 0
    have e6 : k0_off6 (grid0.coords t) 0#32 = ![5, 4 * (t.val % 32) + 0, 0] := off_6 t 0
    have e7 : k0_off7 (grid0.coords t) 0#32 = ![6, 4 * (t.val % 32) + 0, 0] := off_7 t 0
    have e8 : k0_off8 (grid0.coords t) 0#32 = ![7, 4 * (t.val % 32) + 0, 0] := off_8 t 0
    generalize grid0.coords t = i at *
    pointwise [k0_pay9, k0_pay10, k0_pay11, k0_pay12, k0_pay13, k0_pay14, k0_pay15, k0_pay16, k0_pay17, k0_pay18, gelu, route, Fin.sum_univ_eight, e1, e2, e3, e4, e5, e6, e7, e8]
  · intro a b
    rw [gate_at _ _ _ _ _ _ _ 1 a b _ (by rfl)]
    have e1 : k0_off1 (grid0.coords t) 1#32 = ![0, 4 * (t.val % 32) + 1, 0] := off_1 t 1
    have e2 : k0_off2 (grid0.coords t) 1#32 = ![1, 4 * (t.val % 32) + 1, 0] := off_2 t 1
    have e3 : k0_off3 (grid0.coords t) 1#32 = ![2, 4 * (t.val % 32) + 1, 0] := off_3 t 1
    have e4 : k0_off4 (grid0.coords t) 1#32 = ![3, 4 * (t.val % 32) + 1, 0] := off_4 t 1
    have e5 : k0_off5 (grid0.coords t) 1#32 = ![4, 4 * (t.val % 32) + 1, 0] := off_5 t 1
    have e6 : k0_off6 (grid0.coords t) 1#32 = ![5, 4 * (t.val % 32) + 1, 0] := off_6 t 1
    have e7 : k0_off7 (grid0.coords t) 1#32 = ![6, 4 * (t.val % 32) + 1, 0] := off_7 t 1
    have e8 : k0_off8 (grid0.coords t) 1#32 = ![7, 4 * (t.val % 32) + 1, 0] := off_8 t 1
    generalize grid0.coords t = i at *
    pointwise [k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, gelu, route, Fin.sum_univ_eight, e1, e2, e3, e4, e5, e6, e7, e8]
  · intro a b
    rw [gate_at _ _ _ _ _ _ _ 2 a b _ (by rfl)]
    have e1 : k0_off1 (grid0.coords t) 2#32 = ![0, 4 * (t.val % 32) + 2, 0] := off_1 t 2
    have e2 : k0_off2 (grid0.coords t) 2#32 = ![1, 4 * (t.val % 32) + 2, 0] := off_2 t 2
    have e3 : k0_off3 (grid0.coords t) 2#32 = ![2, 4 * (t.val % 32) + 2, 0] := off_3 t 2
    have e4 : k0_off4 (grid0.coords t) 2#32 = ![3, 4 * (t.val % 32) + 2, 0] := off_4 t 2
    have e5 : k0_off5 (grid0.coords t) 2#32 = ![4, 4 * (t.val % 32) + 2, 0] := off_5 t 2
    have e6 : k0_off6 (grid0.coords t) 2#32 = ![5, 4 * (t.val % 32) + 2, 0] := off_6 t 2
    have e7 : k0_off7 (grid0.coords t) 2#32 = ![6, 4 * (t.val % 32) + 2, 0] := off_7 t 2
    have e8 : k0_off8 (grid0.coords t) 2#32 = ![7, 4 * (t.val % 32) + 2, 0] := off_8 t 2
    generalize grid0.coords t = i at *
    pointwise [k0_pay9, k0_pay36, k0_pay37, k0_pay38, k0_pay39, k0_pay40, k0_pay41, k0_pay42, k0_pay43, k0_pay44, k0_pay45, k0_pay46, k0_pay47, k0_pay48, gelu, route, Fin.sum_univ_eight, e1, e2, e3, e4, e5, e6, e7, e8]
  · intro a b
    rw [gate_at _ _ _ _ _ _ _ 3 a b _ (by rfl)]
    have e1 : k0_off1 (grid0.coords t) 3#32 = ![0, 4 * (t.val % 32) + 3, 0] := off_1 t 3
    have e2 : k0_off2 (grid0.coords t) 3#32 = ![1, 4 * (t.val % 32) + 3, 0] := off_2 t 3
    have e3 : k0_off3 (grid0.coords t) 3#32 = ![2, 4 * (t.val % 32) + 3, 0] := off_3 t 3
    have e4 : k0_off4 (grid0.coords t) 3#32 = ![3, 4 * (t.val % 32) + 3, 0] := off_4 t 3
    have e5 : k0_off5 (grid0.coords t) 3#32 = ![4, 4 * (t.val % 32) + 3, 0] := off_5 t 3
    have e6 : k0_off6 (grid0.coords t) 3#32 = ![5, 4 * (t.val % 32) + 3, 0] := off_6 t 3
    have e7 : k0_off7 (grid0.coords t) 3#32 = ![6, 4 * (t.val % 32) + 3, 0] := off_7 t 3
    have e8 : k0_off8 (grid0.coords t) 3#32 = ![7, 4 * (t.val % 32) + 3, 0] := off_8 t 3
    generalize grid0.coords t = i at *
    pointwise [k0_pay9, k0_pay49, k0_pay50, k0_pay51, k0_pay52, k0_pay53, k0_pay54, k0_pay55, k0_pay56, k0_pay57, k0_pay58, k0_pay59, k0_pay60, k0_pay61, gelu, route, Fin.sum_univ_eight, e1, e2, e3, e4, e5, e6, e7, e8]

end Cert.KernelIdeal.Peer

end
-- ==== Proof.PeerArray.lean ====
/- The array the routed feed-forward kernel writes, as a function of the argument arrays: every token's row plus the
   sum over all experts of its gates against the second expert table. -/
module

public import proofs.«01_k».proof.Proof.PeerBlock

@[expose] public section

set_option maxRecDepth 16384

noncomputable section
open Idealize.ShloMosaic Idealize.ShloMosaic.TcCoe Idealize.SL.Sem
namespace Cert.KernelIdeal.Peer
open Cert.KernelIdeal Cert.KernelIdeal.Gen

/-! ## The function -/

/-- A token's normalised row. -/
def row (X : Vec Ideal S16384x4096 .f32) (G : Vec Ideal S4096 .f32) (n : Fin 16384) (d : Fin 4096) : EReal :=
  X (ix2 n d) * Ideal.rsqrt (Ideal.div (∑ d' : Fin 4096, X (ix2 n d') * X (ix2 n d')) (Ideal.ofBits FTy.f32 1166016512#32)
    + Ideal.ofBits FTy.f32 897988541#32) * G (ix1 d)

/-- A token's routing weight at an expert. -/
def weight (C E : Vec Ideal S8x128x16384 .f32) (R W : Vec Ideal S8x128x16384 .bf16) (e n : Fin 16384) : EReal :=
  ∑ h : Fin 8, if R (ix3 h ⟨e.val % 128, by omega⟩ n) < C (ix3 h ⟨e.val / 128, by omega⟩ n)
    then W (ix3 h ⟨e.val % 128, by omega⟩ n) * E (ix3 h ⟨e.val / 128, by omega⟩ n) else 0

/-- A token's gate at an expert. -/
def gateOf (X : Vec Ideal S16384x4096 .f32) (G : Vec Ideal S4096 .f32) (U : Vec Ideal S16384x4096 .f32) (C E : Vec Ideal S8x128x16384 .f32)
    (R W : Vec Ideal S8x128x16384 .bf16) (e n : Fin 16384) : EReal :=
  gelu (∑ d : Fin 4096, U (ix2 e d) * row X G n d) * weight C E R W e n

/-- The result. -/
def result (X : Vec Ideal S16384x4096 .f32) (G : Vec Ideal S4096 .f32) (U T : Vec Ideal S16384x4096 .f32) (C E : Vec Ideal S8x128x16384 .f32)
    (R W : Vec Ideal S8x128x16384 .bf16) : Vec Ideal S16384x4096 .f32 := fun i =>
  X i + ∑ e : Fin 16384, gateOf X G U C E R W e (i 0) * T (ix2 e (i 1))

variable (m : (ℓ : Loc nD τ sig) → Buf (Elt Ideal) ℓ)

/-! ## The windows' blocks -/

/-- Where each window's block sits: the token block is the point's number divided by 32, the expert block the remainder. -/
theorem idx : ∀ t : Fin cfg0.N, win0_0.index t = ![t.val / 32, 0] ∧ win0_1.index t = ![0, 0] ∧ win0_2.index t = ![t.val % 32, 0]
    ∧ win0_3.index t = ![t.val % 32, 0] ∧ win0_4.index t = ![0, 0, t.val / 32] ∧ win0_5.index t = ![0, 0, t.val / 32]
    ∧ win0_6.index t = ![0, 0, t.val / 32] ∧ win0_7.index t = ![0, 0, t.val / 32] :=
  (by decide +kernel : ∀ t : Fin grid0.N, _)

theorem lt_N (t : Fin cfg0.N) : t.val < 1024 := lt_of_lt_of_eq t.isLt N_0

theorem x_blk (c : Dev nD) (t : Fin cfg0.N) (r : Fin 512) (l : Fin 4096) (n : Fin 16384) (hn : n.val = 512 * (t.val / 32) + r.val) :
    (show Vec Ideal S512x4096 .f32 from iblk m c 0 t) (ix2 r l) = m ((c.tc : Thread nD τ).loc main_arg0) (ix2 n l) := by
  blk_ext [iblk, V, idx t]

theorem g_blk (c : Dev nD) (t : Fin cfg0.N) (l : Fin 4096) :
    (show Vec Ideal S1x4096 .f32 from iblk m c 1 t) (ix2 0 l) = m ((c.tc : Thread nD τ).loc main_arg1) (ix1 l) := by
  blk_simp [iblk]
  entry_read
  pointwise
  blk_ext [iblk, V, idx t]

theorem u_blk (c : Dev nD) (t : Fin cfg0.N) (k : Fin 512) (l : Fin 4096) (e : Fin 16384) (he : e.val = 512 * (t.val % 32) + k.val) :
    (show Vec Ideal S512x4096 .bf16 from iblk m c 2 t) (ix2 k l) = m ((c.tc : Thread nD τ).loc main_arg2) (ix2 e l) := by
  blk_simp [iblk]
  entry_read
  pointwise
  blk_ext [iblk, V, idx t]

theorem t_blk (c : Dev nD) (t : Fin cfg0.N) (k : Fin 512) (l : Fin 4096) (e : Fin 16384) (he : e.val = 512 * (t.val % 32) + k.val) :
    (show Vec Ideal S512x4096 .bf16 from iblk m c 3 t) (ix2 k l) = m ((c.tc : Thread nD τ).loc main_arg3) (ix2 e l) := by
  blk_simp [iblk]
  entry_read
  pointwise
  blk_ext [iblk, V, idx t]

theorem c_blk (c : Dev nD) (t : Fin cfg0.N) (h : Fin 8) (a : Fin 128) (r : Fin 512) (n : Fin 16384) (hn : n.val = 512 * (t.val / 32) + r.val) :
    (show Vec Ideal S8x128x512 .f32 from iblk m c 4 t) (ix3 h a r) = m ((c.tc : Thread nD τ).loc main_arg4) (ix3 h a n) := by
  blk_ext [iblk, V, idx t]

theorem e_blk (c : Dev nD) (t : Fin cfg0.N) (h : Fin 8) (a : Fin 128) (r : Fin 512) (n : Fin 16384) (hn : n.val = 512 * (t.val / 32) + r.val) :
    (show Vec Ideal S8x128x512 .f32 from iblk m c 5 t) (ix3 h a r) = m ((c.tc : Thread nD τ).loc main_arg5) (ix3 h a n) := by
  blk_ext [iblk, V, idx t]

theorem r_blk (c : Dev nD) (t : Fin cfg0.N) (h : Fin 8) (a : Fin 128) (r : Fin 512) (n : Fin 16384) (hn : n.val = 512 * (t.val / 32) + r.val) :
    (show Vec Ideal S8x128x512 .bf16 from iblk m c 6 t) (ix3 h a r) = m ((c.tc : Thread nD τ).loc main_arg6) (ix3 h a n) := by
  blk_ext [iblk, V, idx t]

theorem w_blk (c : Dev nD) (t : Fin cfg0.N) (h : Fin 8) (a : Fin 128) (r : Fin 512) (n : Fin 16384) (hn : n.val = 512 * (t.val / 32) + r.val) :
    (show Vec Ideal S8x128x512 .bf16 from iblk m c 7 t) (ix3 h a r) = m ((c.tc : Thread nD τ).loc main_arg7) (ix3 h a n) := by
  blk_ext [iblk, V, idx t]

/-! ## What the scratch holds -/

theorem normed_at (X : Vec Ideal S512x4096 .f32) (G : Vec Ideal S1x4096 .f32) (r : Fin 512) (d : Fin 4096) :
    normed X G (ix2 r d) = X (ix2 r d) * Ideal.rsqrt (Ideal.div (∑ d' : Fin 4096, X (ix2 r d') * X (ix2 r d')) (Ideal.ofBits FTy.f32 1166016512#32)
      + Ideal.ofBits FTy.f32 897988541#32) * G (ix2 0 d) := rfl

/-- The normalised block at an index is the token's normalised row. -/
theorem normed_blk (c : Dev nD) (t : Fin cfg0.N) (r : Fin 512) (d : Fin 4096) (n : Fin 16384) (hn : n.val = 512 * (t.val / 32) + r.val) :
    normed (iblk m c 0 t) (iblk m c 1 t) (ix2 r d)
      = row (m ((c.tc : Thread nD τ).loc main_arg0)) (m ((c.tc : Thread nD τ).loc main_arg1)) n d := by
  have hx := fun l => x_blk m c t r l n hn
  have hg := g_blk m c t d
  dsimp only at hx hg
  rw [normed_at, hg, hx d]
  simp only [hx]
  rfl

/-- After any point the scratch holds the normalised rows of the point's token block. -/
theorem scratch (c : Dev nD) : ∀ (p q : ℕ) (hp : p < 32) (t : Fin cfg0.N), t.val = 32 * q + p → ∀ (r : Fin 512) (d : Fin 4096) (n : Fin 16384),
    n.val = 512 * q + r.val → (show Vec Ideal S512x4096 .bf16 from (outsAt0 m c t.val t.isLt).2) (ix2 r d)
      = row (m ((c.tc : Thread nD τ).loc main_arg0)) (m ((c.tc : Thread nD τ).loc main_arg1)) n d
  | 0, q, hp, t, ht, r, d, n, hn => by
    rw [rows_first m c t (by omega)]
    exact normed_blk m c t r d n (by omega)
  | p + 1, q, hp, t, ht, r, d, n, hn => by
    have hl := t.isLt
    rw [rows_later m c t (by omega) (by omega)]
    exact scratch c p q (by omega) ⟨t.val - 1, by omega⟩ (by show t.val - 1 = _; omega) r d n hn

/-! ## What the output block holds -/

/-- A block's gate is the token's gate at the expert, where the scratch holds the token's normalised row. -/
theorem gate_blk (c : Dev nD) (t : Fin cfg0.N) (H : Vec Ideal S512x4096 .bf16) (k r : Fin 512) (n e : Fin 16384)
    (hn : n.val = 512 * (t.val / 32) + r.val) (he : e.val = 512 * (t.val % 32) + k.val)
    (hH : ∀ d, H (ix2 r d) = row (m ((c.tc : Thread nD τ).loc main_arg0)) (m ((c.tc : Thread nD τ).loc main_arg1)) n d) :
    gate (iblk m c 2 t) H (iblk m c 4 t) (iblk m c 5 t) (iblk m c 6 t) (iblk m c 7 t) ⟨t.val % 32, Nat.mod_lt _ (by decide)⟩ k r
      = gateOf (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) e n := by
  have hu := fun d => u_blk m c t k d e he
  have hc := fun h a => c_blk m c t h a r n hn
  have hE := fun h a => e_blk m c t h a r n hn
  have hr := fun h a => r_blk m c t h a r n hn
  have hw := fun h a => w_blk m c t h a r n hn
  dsimp only at hu hc hE hr hw
  have ha : (⟨4 * (t.val % 32) + k.val / 128, by omega⟩ : Fin 128) = ⟨e.val / 128, by omega⟩ :=
    Fin.ext (by show 4 * (t.val % 32) + k.val / 128 = e.val / 128; omega)
  have hb : (⟨k.val % 128, by omega⟩ : Fin 128) = ⟨e.val % 128, by omega⟩ := Fin.ext (by show k.val % 128 = e.val % 128; omega)
  unfold gate gateOf route weight
  dsimp only
  rw [ha, hb]
  simp only [hu, hH, hc, hE, hr, hw]

/-- The part of the sum that expert block `s` contributes to token `n`, column `l`. -/
def part (c : Dev nD) (n : Fin 16384) (l : Fin 4096) (s : ℕ) : EReal :=
  ∑ k : Fin 512, (fun e : Fin 16384 => gateOf (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) e n * m ((c.tc : Thread nD τ).loc main_arg3) (ix2 e l)) (Fin.ofNat 16384 (s * 512 + k.val))

/-- A point's own part, off its blocks. -/
theorem part_blk (c : Dev nD) (t : Fin cfg0.N) (H : Vec Ideal S512x4096 .bf16) (r : Fin 512) (l : Fin 4096) (n : Fin 16384)
    (hn : n.val = 512 * (t.val / 32) + r.val)
    (hH : ∀ d, H (ix2 r d) = row (m ((c.tc : Thread nD τ).loc main_arg0)) (m ((c.tc : Thread nD τ).loc main_arg1)) n d) :
    (∑ k : Fin 512, gate (iblk m c 2 t) H (iblk m c 4 t) (iblk m c 5 t) (iblk m c 6 t) (iblk m c 7 t) ⟨t.val % 32, Nat.mod_lt _ (by decide)⟩ k r
       * (show Vec Ideal S512x4096 .bf16 from iblk m c 3 t) (ix2 k l)) = part m c n l (t.val % 32) := by
  refine Fin.sum_fin_congr fun k => ?_
  have he : (Fin.ofNat 16384 (t.val % 32 * 512 + k.val)).val = 512 * (t.val % 32) + k.val := by
    show (t.val % 32 * 512 + k.val) % 16384 = _
    omega
  have ht := t_blk m c t k l _ he
  dsimp only at ht
  dsimp only
  rw [gate_blk m c t H k r n _ hn he hH, ht]

/-- After any point the output block holds the token's row plus the parts of the expert blocks so far. -/
theorem sums (c : Dev nD) : ∀ (p q : ℕ) (hp : p < 32) (t : Fin cfg0.N), t.val = 32 * q + p → ∀ (r : Fin 512) (l : Fin 4096) (n : Fin 16384),
    n.val = 512 * q + r.val → (show Vec Ideal S512x4096 .f32 from (outsAt0 m c t.val t.isLt).1) (ix2 r l)
      = (show Vec Ideal S16384x4096 .f32 from m ((c.tc : Thread nD τ).loc main_arg0)) (ix2 n l) + ∑ s ∈ Finset.range (p + 1), part m c n l s
  | 0, q, hp, t, ht, r, l, n, hn => by
    have hx := x_blk m c t r l n (by omega)
    have hpt := part_blk m c t _ r l n (by omega) fun d => normed_blk m c t r d n (by omega)
    have h0 : t.val % 32 = 0 := by omega
    refine (sum_first m c t h0 r l).trans ?_
    rw [hpt, h0, Finset.sum_range_one]
    exact congrArg (· + _) hx
  | p + 1, q, hp, t, ht, r, l, n, hn => by
    have hl := t.isLt
    have hprev := sums c p q (by omega) ⟨t.val - 1, by omega⟩ (by show t.val - 1 = _; omega) r l n hn
    have hpt := part_blk m c t _ r l n (by omega) fun d =>
      scratch m c p q (by omega) ⟨t.val - 1, by omega⟩ (by show t.val - 1 = _; omega) r d n hn
    have h1 : t.val % 32 = p + 1 := by omega
    refine (sum_later m c t (by omega) (by omega) r l).trans ?_
    rw [Finset.sum_range_succ, ← add_assoc]
    refine congrArg₂ (· + ·) hprev ?_
    rw [← h1]
    exact hpt

/-- The parts of all expert blocks make up the sum over the experts. -/
theorem parts (c : Dev nD) (n : Fin 16384) (l : Fin 4096) : (∑ s ∈ Finset.range 32, part m c n l s)
    = ∑ e : Fin 16384, gateOf (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) e n * m ((c.tc : Thread nD τ).loc main_arg3) (ix2 e l) := by
  rw [Finset.sum_range]
  unfold part
  refine Fin.sum_mul_add_congr fun s k hl => ?_
  have : Fin.ofNat 16384 (s.val * 512 + k.val) = ⟨s.val * 512 + k.val, hl⟩ := Fin.ext (Nat.mod_eq_of_lt hl)
  rw [this]

/-- The array after the run. -/
theorem final (c : Dev nD) : Cert.KernelIdeal.Value.G8 m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) := by
  rw [← Cert.KernelIdeal.Value.final8]
  refine (dats m 0 c).arrAt_eq_of_covers 8 _ (by decide +kernel) fun t hf y => ?_
  blk_simp
  rw [after0_8]
  have ht := lt_N t
  have hf' := (flush0_8 t).mp hf
  idx_vars y
  have hi : win0_8.index t = ![t.val / 32, 0] := (by decide +kernel : ∀ t : Fin grid0.N, win0_8.index t = ![t.val / 32, 0]) t
  have he : (ix2 (⟨512 * (t.val / 32) + y0.val, by omega⟩ : Fin 16384) y1 : S16384x4096.Idx) = ((cfg0.win 8).blk t).view.emb (ix2 y0 y1) := by
    blk_ext [hi]
  refine Eq.trans ?_ (congrArg (result _ _ _ _ _ _ _ _) he)
  refine (sums m c 31 (t.val / 32) (by decide) t (by omega) y0 y1 ⟨512 * (t.val / 32) + y0.val, by omega⟩ rfl).trans ?_
  rw [parts]
  rfl

end Cert.KernelIdeal.Peer

end
-- ==== Proof.PeerReference.lean ====
/- The reference's term read at an index: the routed feed-forward function of the argument arrays. -/
module

public import proofs.«01_k».proof.Proof.Gen.ReferenceIdeal.Run
public import proofs.«01_k».proof.Proof.PeerArray
public import Idealize.ShloMosaic.Lib.Pointwise

@[expose] public section

set_option maxRecDepth 16384

noncomputable section
open Idealize.ShloMosaic Idealize.ShloMosaic.TcCoe Idealize.SL.Sem
namespace Cert.ReferenceIdeal.Peer
open Cert.ReferenceIdeal Cert.ReferenceIdeal.Gen

/-- The reference's composed term over its argument arrays. -/
abbrev term (X : FVec Ideal S16384x4096 .f32) (G : FVec Ideal S4096 .f32) (U T : FVec Ideal S16384x4096 .f32) (C E : FVec Ideal S8x128x16384 .f32)
    (R W : FVec Ideal S8x128x16384 .bf16) : FVec Ideal S16384x4096 .f32 :=
  addf X (Host.dotGeneral dot_S16384x16384_S16384x4096_S16384x4096_1_0_0_1_n_n none (mulf (mulf (mulf (broadcastInDim S16384x16384 ![] bcast_S_S16384x16384 (constant S_ .f32 0x3F000000#32)) (Host.dotGeneral dot_S16384x4096_S4096x16384_S16384x16384_1_0_0_1_n_n none (mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 G))) (transpose S4096x16384 [1, 0] U transposes_S16384x4096_S4096x16384_1_0))) (Host.erfc (mulf (Host.negf (Host.dotGeneral dot_S16384x4096_S4096x16384_S16384x16384_1_0_0_1_n_n none (mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 G))) (transpose S4096x16384 [1, 0] U transposes_S16384x4096_S4096x16384_1_0))) (broadcastInDim S16384x16384 ![] bcast_S_S16384x16384 (constant S_ .f32 0x3F3504F3#32))))) (transpose S16384x16384 [1, 0] (shapeCast _ (Host.reduceAdd (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 R bitsLt_bf16_f32))) (broadcastInDim S8x128x128x16384 ![0, 1, 2, 3] bcast_S8x128x1x16384_S8x128x128x16384_0_1_2_3 (broadcastInDim S8x128x1x16384 ![0, 1, 3] bcast_S8x128x16384_S8x128x1x16384_0_1_3 C))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 E)) (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 W bitsLt_bf16_f32)))) (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384) transposes_S16384x16384_S16384x16384_1_0)) T)

/-- It is the function the kernel's array was shown to be. -/
theorem term_eq (X : FVec Ideal S16384x4096 .f32) (G : FVec Ideal S4096 .f32) (U T : FVec Ideal S16384x4096 .f32) (C E : FVec Ideal S8x128x16384 .f32)
    (R W : FVec Ideal S8x128x16384 .bf16) : term X G U T C E R W = Cert.KernelIdeal.Peer.result X G U T C E R W := by
  funext i
  idx_vars i
  pointwise [term, Cert.KernelIdeal.Peer.result]
  refine congrArg (X (ix2 i0 i1) + ·) (Finset.sum_congr rfl fun e _ => congrArg (· * T (ix2 e i1)) ?_)
  unfold Cert.KernelIdeal.Peer.gateOf Cert.KernelIdeal.Peer.gelu Cert.KernelIdeal.Peer.weight
  refine congrArg₂ (· * ·) ?_ ?_
  · simp only [neg_mul, Ideal.erfc_neg]
    have hd : (∑ d : Fin 4096, U (ix2 e d) * Cert.KernelIdeal.Peer.row X G i0 d)
        = ∑ d : Fin 4096, Cert.KernelIdeal.Peer.row X G i0 d * U (ix2 e d) := Finset.sum_congr rfl fun d _ => mul_comm _ _
    rw [hd]
    rfl
  · refine Finset.sum_congr rfl fun h _ => ?_
    have h0 : (id (constant (F := Ideal) S_ .f32 0#32)) ix0 = (0 : EReal) := by rw [id]; pointwise
    rw [h0]
    refine if_congr Iff.rfl (mul_comm _ _) rfl

end Cert.ReferenceIdeal.Peer

end
-- ==== Proof.QkvBlock.lean ====
/- One grid point of the projection in front of the attentions: the scratch it carries and the block it writes. -/
module

public import proofs.«01_k».proof.Proof.Gen.QkvIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.QkvIdeal.Norm
open Cert.QkvIdeal Cert.QkvIdeal.Gen

variable (m : (ℓ : Loc nD τ sig) → Buf (Elt Ideal) ℓ)

/-- A load of the whole buffer reads what the stores left. -/
theorem read_all {e : EltTy} {κ : Kind} {sp : Space} (v : View sig κ sp S512x4096 e) (L : List (View.Piece (Elt Ideal) S512x4096 e)) :
    v.readCov L (Rect.unit (s := S512x4096) ![0, 0] ![512, 4096] inb_S512x4096_S512x4096_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- A carried scratch buffer, read whole, is what the point before left in it. -/
theorem read_whole (b : Ref sig .tc) (h : (Memref.whole b).IsWhole) (X : b.ty.shape.Idx → Elt Ideal b.ty.elt) :
    View.read (Elt Ideal) (View.whole b) (h.unread X) = X :=
  h.read_unread X

/-- Four row tiles make up one function of the row. -/
theorem canon_rows (f : Vec Ideal S512x4096 .bf16) (p0 p1 p2 p3 : Vec Ideal S128x4096 .bf16)
    (h0 : ∀ (a : Fin 128) (b : Fin 4096), p0 (ix2 a b) = f (ix2 ⟨a.val, by omega⟩ b))
    (h1 : ∀ (a : Fin 128) (b : Fin 4096), p1 (ix2 a b) = f (ix2 ⟨128 + a.val, by omega⟩ b))
    (h2 : ∀ (a : Fin 128) (b : Fin 4096), p2 (ix2 a b) = f (ix2 ⟨256 + a.val, by omega⟩ b))
    (h3 : ∀ (a : Fin 128) (b : Fin 4096), p3 (ix2 a b) = f (ix2 ⟨384 + a.val, by omega⟩ b)) :
    View.canon (Val := Elt Ideal) (s := S512x4096) (e := .bf16)
      [⟨Rect.unit (s := S512x4096) ![384, 0] ![128, 4096] inb_S512x4096_S128x4096_384_0, p3⟩,
       ⟨Rect.unit (s := S512x4096) ![256, 0] ![128, 4096] inb_S512x4096_S128x4096_256_0, p2⟩,
       ⟨Rect.unit (s := S512x4096) ![128, 0] ![128, 4096] inb_S512x4096_S128x4096_128_0, p1⟩,
       ⟨Rect.unit (s := S512x4096) ![0, 0] ![128, 4096] inb_S512x4096_S128x4096_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- Eight heads make up one function of the head. -/
theorem canon_heads (f : Vec Ideal S1x8x512x128 .f32) (p0 p1 p2 p3 p4 p5 p6 p7 : Vec Ideal S1x1x512x128 .f32)
    (h0 : ∀ (a : Fin 512) (b : Fin 128), p0 (ix4 0 0 a b) = f (ix4 0 0 a b))
    (h1 : ∀ (a : Fin 512) (b : Fin 128), p1 (ix4 0 0 a b) = f (ix4 0 1 a b))
    (h2 : ∀ (a : Fin 512) (b : Fin 128), p2 (ix4 0 0 a b) = f (ix4 0 2 a b))
    (h3 : ∀ (a : Fin 512) (b : Fin 128), p3 (ix4 0 0 a b) = f (ix4 0 3 a b))
    (h4 : ∀ (a : Fin 512) (b : Fin 128), p4 (ix4 0 0 a b) = f (ix4 0 4 a b))
    (h5 : ∀ (a : Fin 512) (b : Fin 128), p5 (ix4 0 0 a b) = f (ix4 0 5 a b))
    (h6 : ∀ (a : Fin 512) (b : Fin 128), p6 (ix4 0 0 a b) = f (ix4 0 6 a b))
    (h7 : ∀ (a : Fin 512) (b : Fin 128), p7 (ix4 0 0 a b) = f (ix4 0 7 a b)) :
    View.canon (Val := Elt Ideal) (s := S1x8x512x128) (e := .f32)
      [⟨Rect.unit (s := S1x8x512x128) ![0, 7, 0, 0] ![1, 1, 512, 128] inb_S1x8x512x128_S1x1x512x128_0_7_0_0, p7⟩,
       ⟨Rect.unit (s := S1x8x512x128) ![0, 6, 0, 0] ![1, 1, 512, 128] inb_S1x8x512x128_S1x1x512x128_0_6_0_0, p6⟩,
       ⟨Rect.unit (s := S1x8x512x128) ![0, 5, 0, 0] ![1, 1, 512, 128] inb_S1x8x512x128_S1x1x512x128_0_5_0_0, p5⟩,
       ⟨Rect.unit (s := S1x8x512x128) ![0, 4, 0, 0] ![1, 1, 512, 128] inb_S1x8x512x128_S1x1x512x128_0_4_0_0, p4⟩,
       ⟨Rect.unit (s := S1x8x512x128) ![0, 3, 0, 0] ![1, 1, 512, 128] inb_S1x8x512x128_S1x1x512x128_0_3_0_0, p3⟩,
       ⟨Rect.unit (s := S1x8x512x128) ![0, 2, 0, 0] ![1, 1, 512, 128] inb_S1x8x512x128_S1x1x512x128_0_2_0_0, p2⟩,
       ⟨Rect.unit (s := S1x8x512x128) ![0, 1, 0, 0] ![1, 1, 512, 128] inb_S1x8x512x128_S1x1x512x128_0_1_0_0, p1⟩,
       ⟨Rect.unit (s := S1x8x512x128) ![0, 0, 0, 0] ![1, 1, 512, 128] inb_S1x8x512x128_S1x1x512x128_0_0_0_0, p0⟩] = f := by
  funext y
  canon_tiles x k
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h7]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h6]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h5]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h4]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h3]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h2]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h1]; blk_ext
    · exact k2.symm
    · exact k3.symm
  · obtain ⟨a, b, rfl⟩ : ∃ a b, x = ix4 0 0 a b := ⟨x 2, x 3, by
      funext j
      match j with
      | ⟨0, _⟩ => exact Subsingleton.elim (α := Fin 1) _ _
      | ⟨1, _⟩ => exact Subsingleton.elim (α := Fin 1) _ _
      | ⟨2, _⟩ => rfl
      | ⟨3, _⟩ => rfl⟩
    rw [h0]; blk_ext
    · exact k2.symm
    · exact k3.symm

/-- The block's rows, divided by their root mean square and scaled. -/
def normed (X : Vec Ideal S512x4096 .f32) (G : Vec Ideal S1x4096 .f32) : Vec Ideal S512x4096 .bf16 := fun y =>
  X y * Ideal.rsqrt (Ideal.div (∑ d : Fin 4096, X (ix2 (y 0) d) * X (ix2 (y 0) d)) (Ideal.ofBits FTy.f32 1166016512#32)
    + Ideal.ofBits FTy.f32 897988541#32) * G (ix2 0 (y 1))

theorem normed_at (X : Vec Ideal S512x4096 .f32) (G : Vec Ideal S1x4096 .f32) (r : Fin 512) (d : Fin 4096) :
    normed X G (ix2 r d) = X (ix2 r d) * Ideal.rsqrt (Ideal.div (∑ d' : Fin 4096, X (ix2 r d') * X (ix2 r d')) (Ideal.ofBits FTy.f32 1166016512#32)
      + Ideal.ofBits FTy.f32 897988541#32) * G (ix2 0 d) := rfl

/-- The product of the normalised rows and a block of the matrix, at a row, a head of the block and a lane. -/
def prod (H : Vec Ideal S512x4096 .bf16) (W : Vec Ideal S4096x1024 .bf16) (r : Fin 512) (h : Fin 8) (l : Fin 128) : EReal :=
  ∑ d : Fin 4096, H (ix2 r d) * W (ix2 d ⟨128 * h.val + l.val, by omega⟩)

/-- The block of a plain head group. -/
def plain (H : Vec Ideal S512x4096 .bf16) (W : Vec Ideal S4096x1024 .bf16) : Vec Ideal S1x8x512x128 .f32 := fun y =>
  prod H W (y 2) (y 1) (y 3)

theorem plain_at (H : Vec Ideal S512x4096 .bf16) (W : Vec Ideal S4096x1024 .bf16) (h : Fin 8) (r : Fin 512) (l : Fin 128) :
    plain H W (ix4 0 h r l) = prod H W r h l := rfl

/-- The block of a normalised head group. -/
def scaled (H : Vec Ideal S512x4096 .bf16) (W : Vec Ideal S4096x1024 .bf16) (C : Vec Ideal S1x1024 .f32) : Vec Ideal S1x8x512x128 .f32 := fun y =>
  prod H W (y 2) (y 1) (y 3) * Ideal.rsqrt (Ideal.div (∑ l : Fin 128, prod H W (y 2) (y 1) l * prod H W (y 2) (y 1) l) (Ideal.ofBits FTy.f32 1124073472#32)
    + Ideal.ofBits FTy.f32 897988541#32) * C (ix2 0 ⟨128 * (show Fin 8 from y 1).val + (show Fin 128 from y 3).val, by omega⟩)

theorem scaled_at (H : Vec Ideal S512x4096 .bf16) (W : Vec Ideal S4096x1024 .bf16) (C : Vec Ideal S1x1024 .f32) (h : Fin 8) (r : Fin 512) (l : Fin 128) :
    scaled H W C (ix4 0 h r l) = prod H W r h l * Ideal.rsqrt (Ideal.div (∑ l' : Fin 128, prod H W r h l' * prod H W r h l') (Ideal.ofBits FTy.f32 1124073472#32)
    + Ideal.ofBits FTy.f32 897988541#32) * C (ix2 0 ⟨128 * h.val + l.val, by omega⟩) := rfl

/-- The first point of a run leaves the normalised block in the scratch. -/
theorem rows_first (c : Dev nD) (t : Fin cfg0.N) (h0 : t.val % 12 = 0) :
    (outsAt0 m c t.val t.isLt).2 = normed (iblk m c 0 t) (iblk m c 1 t) := by
  rw [outsAt0_A m c t h0 (by omega) (by omega)]
  frame_out
  refine canon_rows _ _ _ _ _ ?_ ?_ ?_ ?_
  all_goals intro a b
  all_goals pointwise [k0_pay6, k0_pay7, k0_pay8, k0_pay9, normed]

/-- A later point leaves the scratch as it found it. -/
theorem rows_later (c : Dev nD) (t : Fin cfg0.N) (h0 : ¬t.val % 12 = 0) (hp : t.val - 1 < cfg0.N) :
    (outsAt0 m c t.val t.isLt).2 = (outsAt0 m c (t.val - 1) hp).2 := by
  by_cases h1 : t.val % 12 ≤ 3
  · rw [outsAt0_B m c t h0 h1 (by omega)]
    unfold sout0_B_0
    rfl
  · rw [outsAt0_C m c t h0 h1 (by omega)]
    unfold sout0_C_0
    rfl

/-- The first point of a run writes the normalised heads of its block. -/
theorem out_first (c : Dev nD) (t : Fin cfg0.N) (h0 : t.val % 12 = 0) :
    (outsAt0 m c t.val t.isLt).1 = scaled (normed (iblk m c 0 t) (iblk m c 1 t)) (iblk m c 2 t) (iblk m c 3 t) := by
  rw [outsAt0_A m c t h0 (by omega) (by omega)]
  frame_out
  rw [read_all, canon_rows (normed (iblk m c 0 t) (iblk m c 1 t))]
  · refine canon_heads _ _ _ _ _ _ _ _ _ ?_ ?_ ?_ ?_ ?_ ?_ ?_ ?_
    all_goals intro a b
    all_goals rw [scaled_at]
    all_goals pointwise [k0_pay1, k0_pay2, k0_pay3, k0_pay10, k0_pay11, k0_pay12, k0_pay13, k0_pay14, k0_pay15, k0_pay16, k0_pay17, k0_pay18, k0_pay19, k0_pay20, k0_pay21, prod]
  all_goals intro a b
  all_goals pointwise [k0_pay6, k0_pay7, k0_pay8, k0_pay9, normed]

/-- A later point of the normalised groups writes the normalised heads of its block. -/
theorem out_normed (c : Dev nD) (t : Fin cfg0.N) (h0 : ¬t.val % 12 = 0) (h1 : t.val % 12 ≤ 3) (hp : t.val - 1 < cfg0.N) :
    (outsAt0 m c t.val t.isLt).1 = scaled (outsAt0 m c (t.val - 1) hp).2 (iblk m c 2 t) (iblk m c 3 t) := by
  rw [outsAt0_B m c t h0 h1 (by omega)]
  frame_out
  simp only [read_whole]
  refine canon_heads _ _ _ _ _ _ _ _ _ ?_ ?_ ?_ ?_ ?_ ?_ ?_ ?_
  all_goals intro a b
  all_goals rw [scaled_at]
  all_goals pointwise [k0_pay1, k0_pay2, k0_pay3, k0_pay10, k0_pay11, k0_pay12, k0_pay13, k0_pay14, k0_pay15, k0_pay16, k0_pay17, k0_pay18, k0_pay19, k0_pay20, k0_pay21, prod]

/-- A point of the plain groups writes the heads of its block. -/
theorem out_plain (c : Dev nD) (t : Fin cfg0.N) (h1 : ¬t.val % 12 ≤ 3) (hp : t.val - 1 < cfg0.N) :
    (outsAt0 m c t.val t.isLt).1 = plain (outsAt0 m c (t.val - 1) hp).2 (iblk m c 2 t) := by
  rw [outsAt0_C m c t (by omega) h1 (by omega)]
  frame_out
  simp only [read_whole]
  refine canon_heads _ _ _ _ _ _ _ _ _ ?_ ?_ ?_ ?_ ?_ ?_ ?_ ?_
  all_goals intro a b
  all_goals rw [plain_at]
  all_goals pointwise [k0_pay1, k0_pay4, k0_pay5, k0_pay22, k0_pay23, k0_pay24, k0_pay25, k0_pay26, k0_pay27, k0_pay28, prod]

end Cert.QkvIdeal.Norm

end
-- ==== Proof.QkvArray.lean ====
/- The array the projection in front of the attentions writes, as a function of its argument arrays. -/
module

public import proofs.«01_k».proof.Proof.QkvBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.QkvIdeal.Norm
open Cert.QkvIdeal Cert.QkvIdeal.Gen

/-- A token's normalised row. -/
def row (X : Vec Ideal S4x4096x4096 .f32) (G : Vec Ideal S4096 .f32) (b : Fin 4) (s : Fin 4096) (d : Fin 4096) : EReal :=
  X (ix3 b s d) * Ideal.rsqrt (Ideal.div (∑ d' : Fin 4096, X (ix3 b s d') * X (ix3 b s d')) (Ideal.ofBits FTy.f32 1166016512#32)
    + Ideal.ofBits FTy.f32 897988541#32) * G (ix1 d)

/-- One lane of one head of one token: the normalised row times a column of the matrix. -/
def proj (X : Vec Ideal S4x4096x4096 .f32) (G : Vec Ideal S4096 .f32) (W : Vec Ideal S4096x12288 .f32) (b : Fin 4) (h : Fin 96) (s : Fin 4096) (l : Fin 128) : EReal :=
  ∑ d : Fin 4096, row X G b s d * W (ix2 d ⟨128 * h.val + l.val, by omega⟩)

/-- A head's lanes divided by their root mean square. -/
def unit (P : Fin 128 → EReal) (l : Fin 128) : EReal :=
  P l * Ideal.rsqrt (Ideal.div (∑ l' : Fin 128, P l' * P l') (Ideal.ofBits FTy.f32 1124073472#32) + Ideal.ofBits FTy.f32 897988541#32)

/-- The heads: the first sixteen normalised and scaled by one gain, the next sixteen by the other, the rest as they are. -/
def heads (X : Vec Ideal S4x4096x4096 .f32) (G : Vec Ideal S4096 .f32) (W : Vec Ideal S4096x12288 .f32) (Q K : Vec Ideal S128 .f32)
    (b : Fin 4) (h : Fin 96) (s : Fin 4096) (l : Fin 128) : EReal :=
  if h.val < 16 then unit (proj X G W b h s) l * Q (ix1 l)
  else if h.val < 32 then unit (proj X G W b h s) l * K (ix1 l)
  else proj X G W b h s l

/-- The result. -/
def result (X : Vec Ideal S4x4096x4096 .f32) (G : Vec Ideal S4096 .f32) (W : Vec Ideal S4096x12288 .f32) (Q K : Vec Ideal S128 .f32) :
    Vec Ideal S4x96x4096x128 .f32 := fun i => heads X G W Q K (i 0) (i 1) (i 2) (i 3)

variable (m : (ℓ : Loc nD τ sig) → Buf (Elt Ideal) ℓ)

/-- Where each window's block sits: the token block is the point's number divided by 12, the column block the remainder. -/
theorem idx : ∀ t : Fin cfg0.N, win0_0.index t = ![t.val / 12, 0] ∧ win0_1.index t = ![0, 0] ∧ win0_2.index t = ![0, t.val % 12]
    ∧ win0_3.index t = ![0, t.val % 12] :=
  (by decide +kernel : ∀ t : Fin grid0.N, _)

theorem lt_N (t : Fin cfg0.N) : t.val < 384 := lt_of_lt_of_eq t.isLt N_0

theorem x_blk (c : Dev nD) (t : Fin cfg0.N) (r : Fin 512) (l : Fin 4096) (b : Fin 4) (s : Fin 4096) (hn : 4096 * b.val + s.val = 512 * (t.val / 12) + r.val) :
    (show Vec Ideal S512x4096 .f32 from iblk m c 0 t) (ix2 r l) = m ((c.tc : Thread nD τ).loc main_arg0) (ix3 b s l) := by
  blk_simp [iblk]
  entry_read
  pointwise
  blk_ext [iblk, V, idx t]

theorem g_blk (c : Dev nD) (t : Fin cfg0.N) (l : Fin 4096) :
    (show Vec Ideal S1x4096 .f32 from iblk m c 1 t) (ix2 0 l) = m ((c.tc : Thread nD τ).loc main_arg1) (ix1 l) := by
  blk_simp [iblk]
  entry_read
  pointwise
  blk_ext [iblk, V, idx t]

theorem w_blk (c : Dev nD) (t : Fin cfg0.N) (d : Fin 4096) (l : Fin 1024) (e : Fin 12288) (he : e.val = 1024 * (t.val % 12) + l.val) :
    (show Vec Ideal S4096x1024 .bf16 from iblk m c 2 t) (ix2 d l) = m ((c.tc : Thread nD τ).loc main_arg2) (ix2 d e) := by
  blk_simp [iblk]
  entry_read
  pointwise
  blk_ext [iblk, V, idx t]

/-- The heads' gains laid end to end. -/
def ends (u0 u1 : Vec Ideal S2048 .f32) (u2 : Vec Ideal S8192 .f32) : Vec Ideal S12288 .f32 :=
  concatenate S12288 0 [⟨S2048, u0⟩, ⟨S2048, u1⟩, ⟨S8192, u2⟩] concatenates_S2048_S2048_S8192_S12288_d0

/-- What the fourth window's array holds when the call starts. -/
theorem gains (c : Dev nD) : (V m c main_v11 : Vec Ideal S1x12288 .f32) = shapeCast S1x12288 (ends
      (shapeCast S2048 (broadcastInDim S16x128 ![0, 1] bcast_S1x128_S16x128_0_1 (shapeCast S1x128 (m ((c.tc : Thread nD τ).loc main_arg3)) shapeCasts_S128_S1x128)) shapeCasts_S16x128_S2048)
      (shapeCast S2048 (broadcastInDim S16x128 ![0, 1] bcast_S1x128_S16x128_0_1 (shapeCast S1x128 (m ((c.tc : Thread nD τ).loc main_arg4)) shapeCasts_S128_S1x128)) shapeCasts_S16x128_S2048)
      ((broadcastInDim S8192 ![] bcast_S_S8192 : (⟨S_, .f32⟩ : BufTy).Contents (Elt Ideal) → (⟨S8192, .f32⟩ : BufTy).Contents (Elt Ideal)) (constant (F := Ideal) S_ .f32 0x3F800000#32))) shapeCasts_S12288_S1x12288 := by
  unfold_abbrev_sides
  after_results
  rfl

/-- A head's gains in the first sixteen heads. -/
theorem q_blk (c : Dev nD) (t : Fin cfg0.N) (ht : t.val % 12 < 2) (k : Fin 8) (l : Fin 128) (j : Fin 1024) (hj : j.val = 128 * k.val + l.val) :
    (show Vec Ideal S1x1024 .f32 from iblk m c 3 t) (ix2 0 j) = m ((c.tc : Thread nD τ).loc main_arg3) (ix1 l) := by
  blk_simp [iblk]
  rw [gains]
  pointwise [ends]
  blk_simp [idx t]
  rw [dif_pos (by omega)]
  blk_ext [idx t]

/-- A head's gains in the next sixteen. -/
theorem k_blk (c : Dev nD) (t : Fin cfg0.N) (hl : ¬t.val % 12 < 2) (ht : t.val % 12 < 4) (k : Fin 8) (l : Fin 128) (j : Fin 1024) (hj : j.val = 128 * k.val + l.val) :
    (show Vec Ideal S1x1024 .f32 from iblk m c 3 t) (ix2 0 j) = m ((c.tc : Thread nD τ).loc main_arg4) (ix1 l) := by
  blk_simp [iblk]
  rw [gains]
  pointwise [ends]
  blk_simp [idx t]
  rw [dif_neg (by omega), dif_pos (by omega)]
  blk_ext [idx t]

/-- The normalised block at an index is the token's normalised row. -/
theorem normed_blk (c : Dev nD) (t : Fin cfg0.N) (r : Fin 512) (d : Fin 4096) (b : Fin 4) (s : Fin 4096) (hn : 4096 * b.val + s.val = 512 * (t.val / 12) + r.val) :
    normed (iblk m c 0 t) (iblk m c 1 t) (ix2 r d)
      = row (m ((c.tc : Thread nD τ).loc main_arg0)) (m ((c.tc : Thread nD τ).loc main_arg1)) b s d := by
  have hx := fun l => x_blk m c t r l b s hn
  have hg := g_blk m c t d
  dsimp only at hx hg
  rw [normed_at]
  unfold row
  simp only [hx, hg]

/-- After any point the scratch holds its tokens' normalised rows. -/
theorem scratch (c : Dev nD) : ∀ (p q : ℕ) (hp : p < 12) (t : Fin cfg0.N), t.val = 12 * q + p → ∀ (r : Fin 512) (d : Fin 4096) (b : Fin 4) (s : Fin 4096),
    4096 * b.val + s.val = 512 * q + r.val → (show Vec Ideal S512x4096 .bf16 from (outsAt0 m c t.val t.isLt).2) (ix2 r d)
      = row (m ((c.tc : Thread nD τ).loc main_arg0)) (m ((c.tc : Thread nD τ).loc main_arg1)) b s d
  | 0, q, hp, t, ht, r, d, b, s, hn => by
    rw [rows_first m c t (by omega)]
    exact normed_blk m c t r d b s (by omega)
  | p + 1, q, hp, t, ht, r, d, b, s, hn => by
    have hl := t.isLt
    rw [rows_later m c t (by omega) (by omega)]
    exact scratch c p q (by omega) ⟨t.val - 1, by omega⟩ (by show t.val - 1 = _; omega) r d b s hn

/-- A block's product is the projection, once its rows are the tokens' normalised rows. -/
theorem prod_blk (c : Dev nD) (t : Fin cfg0.N) (H : Vec Ideal S512x4096 .bf16) (r : Fin 512) (k : Fin 8) (b : Fin 4) (h : Fin 96) (s : Fin 4096)
    (hH : ∀ d, H (ix2 r d) = row (m ((c.tc : Thread nD τ).loc main_arg0)) (m ((c.tc : Thread nD τ).loc main_arg1)) b s d)
    (hh : h.val = 8 * (t.val % 12) + k.val) (l : Fin 128) :
    prod H (iblk m c 2 t) r k l
      = proj (m ((c.tc : Thread nD τ).loc main_arg0)) (m ((c.tc : Thread nD τ).loc main_arg1)) (m ((c.tc : Thread nD τ).loc main_arg2)) b h s l :=
  Finset.sum_congr rfl fun d _ => congrArg₂ (· * ·) (hH d) (w_blk m c t d _ _ (by show 128 * h.val + l.val = 1024 * (t.val % 12) + (128 * k.val + l.val); omega))

/-- A normalised block at an index is the head's value. -/
theorem scaled_blk (c : Dev nD) (t : Fin cfg0.N) (h4 : t.val % 12 < 4) (H : Vec Ideal S512x4096 .bf16) (r : Fin 512) (k : Fin 8) (b : Fin 4) (h : Fin 96) (s : Fin 4096)
    (hH : ∀ d, H (ix2 r d) = row (m ((c.tc : Thread nD τ).loc main_arg0)) (m ((c.tc : Thread nD τ).loc main_arg1)) b s d)
    (hh : h.val = 8 * (t.val % 12) + k.val) (l : Fin 128) :
    scaled H (iblk m c 2 t) (iblk m c 3 t) (ix4 0 k r l)
      = heads (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b h s l := by
  have hp := prod_blk m c t H r k b h s hH hh
  rw [scaled_at]
  unfold heads unit
  simp only [hp]
  by_cases h2 : t.val % 12 < 2
  · rw [if_pos (by omega)]
    exact congrArg (_ * ·) (q_blk m c t h2 k l _ rfl)
  · rw [if_neg (by omega), if_pos (by omega)]
    exact congrArg (_ * ·) (k_blk m c t h2 h4 k l _ rfl)

/-- After any point the output block holds its part of the result. -/
theorem out_at (c : Dev nD) (t : Fin cfg0.N) (k : Fin 8) (r : Fin 512) (l : Fin 128) (b : Fin 4) (h : Fin 96) (s : Fin 4096)
    (hn : 4096 * b.val + s.val = 512 * (t.val / 12) + r.val) (hh : h.val = 8 * (t.val % 12) + k.val) :
    (show Vec Ideal S1x8x512x128 .f32 from (outsAt0 m c t.val t.isLt).1) (ix4 0 k r l)
      = heads (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b h s l := by
  have hl := t.isLt
  by_cases h0 : t.val % 12 = 0
  · rw [out_first m c t h0]
    exact scaled_blk m c t (by omega) _ r k b h s (fun d => normed_blk m c t r d b s hn) hh l
  · have hH : ∀ d, (show Vec Ideal S512x4096 .bf16 from (outsAt0 m c (t.val - 1) (by omega)).2) (ix2 r d)
        = row (m ((c.tc : Thread nD τ).loc main_arg0)) (m ((c.tc : Thread nD τ).loc main_arg1)) b s d := fun d =>
      scratch m c (t.val % 12 - 1) (t.val / 12) (by omega) ⟨t.val - 1, by omega⟩ (by show t.val - 1 = _; omega) r d b s hn
    by_cases h3 : t.val % 12 ≤ 3
    · rw [out_normed m c t h0 h3 (by omega)]
      exact scaled_blk m c t (by omega) _ r k b h s hH hh l
    · rw [out_plain m c t h3 (by omega)]
      refine (plain_at _ _ k r l).trans ?_
      unfold heads
      rw [if_neg (by omega), if_neg (by omega)]
      exact prod_blk m c t _ r k b h s hH hh l

/-- The array after the run. -/
theorem final (c : Dev nD) : (dats m 0 c).arrAt 4 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 4 _ (by decide +kernel) fun t hf y => ?_
  blk_simp
  rw [after0_4]
  have ht := lt_N t
  have hi : win0_4.index t = ![t.val / 12 / 8, t.val % 12, t.val / 12 % 8, 0] :=
    (by decide +kernel : ∀ t : Fin grid0.N, win0_4.index t = ![t.val / 12 / 8, t.val % 12, t.val / 12 % 8, 0]) t
  obtain ⟨y1, y2, y3, rfl⟩ : ∃ (y1 : Fin 8) (y2 : Fin 512) (y3 : Fin 128), y = ix4 0 y1 y2 y3 := ⟨y 1, y 2, y 3, by
    funext j
    match j with
    | ⟨0, _⟩ => exact Subsingleton.elim (α := Fin 1) _ _
    | ⟨1, _⟩ => rfl
    | ⟨2, _⟩ => rfl
    | ⟨3, _⟩ => rfl⟩
  have he : (ix4 (⟨t.val / 12 / 8, by omega⟩ : Fin 4) (⟨8 * (t.val % 12) + y1.val, by omega⟩ : Fin 96)
      (⟨512 * (t.val / 12 % 8) + y2.val, by omega⟩ : Fin 4096) y3 : S4x96x4096x128.Idx)
      = ((cfg0.win 4).blk t).view.emb (ix4 0 y1 y2 y3) := by
    blk_ext [hi]
  refine Eq.trans ?_ (congrArg (result _ _ _ _ _) he)
  exact out_at m c t y1 y2 y3 _ _ _ (by show 4096 * (t.val / 12 / 8) + (512 * (t.val / 12 % 8) + y2.val) = _; omega) rfl

end Cert.QkvIdeal.Norm

end
-- ==== Proof.QkvClaim.lean ====
/- The projection in front of the attentions computes its reference. -/
module

public import proofs.«01_k».proof.Defs
public import proofs.«01_k».proof.Proof.QkvArray
public import proofs.«01_k».proof.Proof.Gen.QkvReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_QkvReferenceIdeal : quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run (F := Ideal) m ρ)

theorem algebraic_QkvIdeal_QkvReferenceIdeal : algebraic_QkvIdeal_QkvReferenceIdeal := by
  intro m ρ m' ρ' _ hagree
  refine ⟨_, Cert.QkvIdeal.Value.run_blocks (F := Ideal) m ρ, ?_⟩
  refine (θ_run Cert.QkvReferenceIdeal.defs _ _).mono (fun _ h c => ⟨?_, (h c).2⟩) (Cert.QkvReferenceIdeal.Value.run (F := Ideal) m' ρ')
  rw [(h c).1]
  unfold Cert.QkvReferenceIdeal.Value.res_main_v45
  rw [Cert.QkvIdeal.Norm.final]
  funext i
  idx_vars i
  pointwise [Cert.QkvIdeal.Norm.result, Cert.QkvIdeal.Norm.heads, Cert.QkvIdeal.Norm.unit, Cert.QkvIdeal.Norm.proj, Cert.QkvIdeal.Norm.row]
  simp only [hagree c]
  have e (x : Fin 128) : 128 * i1.val + x.val = i1.val * 128 + x.val := by omega
  simp only [e]
  by_cases h1 : i1.val < 16
  · simp only [h1, ↓reduceDIte, ↓reduceIte]
  · have e1 : 16 + (i1.val - 16) = i1.val := by omega
    by_cases h2 : i1.val < 32
    · have h3 : i1.val - 16 < 16 := by omega
      simp only [h1, h2, h3, e1, ↓reduceDIte, ↓reduceIte]
    · have h3 : ¬i1.val - 16 < 16 := by omega
      have e2 : 32 + (i1.val - 16 - 16) = i1.val := by omega
      simp only [h1, h2, h3, e2, ↓reduceDIte, ↓reduceIte]

end Cert.Proof

end
-- ==== Proof.OutBlock.lean ====
/- One grid point of the projection of the two attentions' results: the scratch it carries and the block it writes. -/
module

public import proofs.«01_k».proof.Proof.Gen.OutIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.OutIdeal.Norm
open Cert.OutIdeal Cert.OutIdeal.Gen

variable (m : (ℓ : Loc nD τ sig) → Buf (Elt Ideal) ℓ)

/-- A load of the whole buffer reads what the stores left. -/
theorem read_all {e : EltTy} {κ : Kind} {sp : Space} (v : View sig κ sp S512x4096 e) (L : List (View.Piece (Elt Ideal) S512x4096 e)) :
    v.readCov L (Rect.unit (s := S512x4096) ![0, 0] ![512, 4096] inb_S512x4096_S512x4096_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- A carried scratch buffer, read whole, is what the point before left in it. -/
theorem read_whole (b : Ref sig .tc) (h : (Memref.whole b).IsWhole) (X : b.ty.shape.Idx → Elt Ideal b.ty.elt) :
    View.read (Elt Ideal) (View.whole b) (h.unread X) = X :=
  h.read_unread X

/-- Eight tiles, four of rows for either attention, make up one function of the row. -/
theorem canon_rows (f : Vec Ideal S512x4096 .bf16) (p0 p1 p2 p3 p4 p5 p6 p7 : Vec Ideal S128x2048 .bf16)
    (h0 : ∀ (a : Fin 128) (b : Fin 2048), p0 (ix2 a b) = f (ix2 ⟨a.val, by omega⟩ ⟨b.val, by omega⟩))
    (h1 : ∀ (a : Fin 128) (b : Fin 2048), p1 (ix2 a b) = f (ix2 ⟨128 + a.val, by omega⟩ ⟨b.val, by omega⟩))
    (h2 : ∀ (a : Fin 128) (b : Fin 2048), p2 (ix2 a b) = f (ix2 ⟨256 + a.val, by omega⟩ ⟨b.val, by omega⟩))
    (h3 : ∀ (a : Fin 128) (b : Fin 2048), p3 (ix2 a b) = f (ix2 ⟨384 + a.val, by omega⟩ ⟨b.val, by omega⟩))
    (h4 : ∀ (a : Fin 128) (b : Fin 2048), p4 (ix2 a b) = f (ix2 ⟨a.val, by omega⟩ ⟨2048 + b.val, by omega⟩))
    (h5 : ∀ (a : Fin 128) (b : Fin 2048), p5 (ix2 a b) = f (ix2 ⟨128 + a.val, by omega⟩ ⟨2048 + b.val, by omega⟩))
    (h6 : ∀ (a : Fin 128) (b : Fin 2048), p6 (ix2 a b) = f (ix2 ⟨256 + a.val, by omega⟩ ⟨2048 + b.val, by omega⟩))
    (h7 : ∀ (a : Fin 128) (b : Fin 2048), p7 (ix2 a b) = f (ix2 ⟨384 + a.val, by omega⟩ ⟨2048 + b.val, by omega⟩)) :
    View.canon (Val := Elt Ideal) (s := S512x4096) (e := .bf16)
      [⟨Rect.unit (s := S512x4096) ![384, 2048] ![128, 2048] inb_S512x4096_S128x2048_384_2048, p7⟩,
       ⟨Rect.unit (s := S512x4096) ![256, 2048] ![128, 2048] inb_S512x4096_S128x2048_256_2048, p6⟩,
       ⟨Rect.unit (s := S512x4096) ![128, 2048] ![128, 2048] inb_S512x4096_S128x2048_128_2048, p5⟩,
       ⟨Rect.unit (s := S512x4096) ![0, 2048] ![128, 2048] inb_S512x4096_S128x2048_0_2048, p4⟩,
       ⟨Rect.unit (s := S512x4096) ![384, 0] ![128, 2048] inb_S512x4096_S128x2048_384_0, p3⟩,
       ⟨Rect.unit (s := S512x4096) ![256, 0] ![128, 2048] inb_S512x4096_S128x2048_256_0, p2⟩,
       ⟨Rect.unit (s := S512x4096) ![128, 0] ![128, 2048] inb_S512x4096_S128x2048_128_0, p1⟩,
       ⟨Rect.unit (s := S512x4096) ![0, 0] ![128, 2048] inb_S512x4096_S128x2048_0_0, p0⟩] = f := by
  funext y
  canon_tiles x k
  · idx_vars x
    rw [h7]; blk_ext
  · idx_vars x
    rw [h6]; blk_ext
  · idx_vars x
    rw [h5]; blk_ext
  · idx_vars x
    rw [h4]; blk_ext
  · idx_vars x
    rw [h3]; blk_ext
  · idx_vars x
    rw [h2]; blk_ext
  · idx_vars x
    rw [h1]; blk_ext
  · idx_vars x
    rw [h0]; blk_ext

/-- Eight column tiles make up one function of the column. -/
theorem canon_cols (f : Vec Ideal S512x1024 .f32) (p0 p1 p2 p3 p4 p5 p6 p7 : Vec Ideal S512x128 .f32)
    (h0 : ∀ (a : Fin 512) (b : Fin 128), p0 (ix2 a b) = f (ix2 a ⟨b.val, by omega⟩))
    (h1 : ∀ (a : Fin 512) (b : Fin 128), p1 (ix2 a b) = f (ix2 a ⟨128 + b.val, by omega⟩))
    (h2 : ∀ (a : Fin 512) (b : Fin 128), p2 (ix2 a b) = f (ix2 a ⟨256 + b.val, by omega⟩))
    (h3 : ∀ (a : Fin 512) (b : Fin 128), p3 (ix2 a b) = f (ix2 a ⟨384 + b.val, by omega⟩))
    (h4 : ∀ (a : Fin 512) (b : Fin 128), p4 (ix2 a b) = f (ix2 a ⟨512 + b.val, by omega⟩))
    (h5 : ∀ (a : Fin 512) (b : Fin 128), p5 (ix2 a b) = f (ix2 a ⟨640 + b.val, by omega⟩))
    (h6 : ∀ (a : Fin 512) (b : Fin 128), p6 (ix2 a b) = f (ix2 a ⟨768 + b.val, by omega⟩))
    (h7 : ∀ (a : Fin 512) (b : Fin 128), p7 (ix2 a b) = f (ix2 a ⟨896 + b.val, by omega⟩)) :
    View.canon (Val := Elt Ideal) (s := S512x1024) (e := .f32)
      [⟨Rect.unit (s := S512x1024) ![0, 896] ![512, 128] inb_S512x1024_S512x128_0_896, p7⟩,
       ⟨Rect.unit (s := S512x1024) ![0, 768] ![512, 128] inb_S512x1024_S512x128_0_768, p6⟩,
       ⟨Rect.unit (s := S512x1024) ![0, 640] ![512, 128] inb_S512x1024_S512x128_0_640, p5⟩,
       ⟨Rect.unit (s := S512x1024) ![0, 512] ![512, 128] inb_S512x1024_S512x128_0_512, p4⟩,
       ⟨Rect.unit (s := S512x1024) ![0, 384] ![512, 128] inb_S512x1024_S512x128_0_384, p3⟩,
       ⟨Rect.unit (s := S512x1024) ![0, 256] ![512, 128] inb_S512x1024_S512x128_0_256, p2⟩,
       ⟨Rect.unit (s := S512x1024) ![0, 128] ![512, 128] inb_S512x1024_S512x128_0_128, p1⟩,
       ⟨Rect.unit (s := S512x1024) ![0, 0] ![512, 128] inb_S512x1024_S512x128_0_0, p0⟩] = f := by
  funext y
  canon_tiles x k
  · idx_vars x
    rw [h7]; blk_ext
  · idx_vars x
    rw [h6]; blk_ext
  · idx_vars x
    rw [h5]; blk_ext
  · idx_vars x
    rw [h4]; blk_ext
  · idx_vars x
    rw [h3]; blk_ext
  · idx_vars x
    rw [h2]; blk_ext
  · idx_vars x
    rw [h1]; blk_ext
  · idx_vars x
    rw [h0]; blk_ext

/-- One attention's rows, divided by their root mean square and scaled. -/
def unit (X : Vec Ideal S512x2048 .f32) (G : Vec Ideal S1x2048 .f32) (r : Fin 512) (d : Fin 2048) : EReal :=
  X (ix2 r d) * Ideal.rsqrt (Ideal.div (∑ d' : Fin 2048, X (ix2 r d') * X (ix2 r d')) (Ideal.ofBits FTy.f32 1157627904#32)
    + Ideal.ofBits FTy.f32 897988541#32) * G (ix2 0 d)

/-- The two attentions' normalised rows, side by side. -/
def normed (X Y : Vec Ideal S512x2048 .f32) (G H : Vec Ideal S1x2048 .f32) : Vec Ideal S512x4096 .bf16 := fun y =>
  if h : (show Fin 4096 from y 1).val < 2048 then unit X G (y 0) ⟨(show Fin 4096 from y 1).val, h⟩
  else unit Y H (y 0) ⟨(show Fin 4096 from y 1).val - 2048, by omega⟩

theorem normed_at (X Y : Vec Ideal S512x2048 .f32) (G H : Vec Ideal S1x2048 .f32) (r : Fin 512) (d : Fin 4096) :
    normed X Y G H (ix2 r d) = if h : d.val < 2048 then unit X G r ⟨d.val, h⟩ else unit Y H r ⟨d.val - 2048, by omega⟩ := rfl

/-- The product of the normalised rows and a block of the matrix, and the residual's block. -/
def prod (H : Vec Ideal S512x4096 .bf16) (W : Vec Ideal S4096x1024 .bf16) (R : Vec Ideal S512x1024 .f32) : Vec Ideal S512x1024 .f32 := fun y =>
  (∑ d : Fin 4096, H (ix2 (y 0) d) * W (ix2 d (y 1))) + R y

/-- The first point of a run leaves the normalised block in the scratch. -/
theorem rows_first (c : Dev nD) (t : Fin cfg0.N) (h0 : t.val % 4 = 0) :
    (outsAt0 m c t.val t.isLt).2 = normed (iblk m c 0 t) (iblk m c 1 t) (iblk m c 2 t) (iblk m c 3 t) := by
  rw [outsAt0_A m c t h0]
  frame_out
  refine canon_rows _ _ _ _ _ _ _ _ _ ?_ ?_ ?_ ?_ ?_ ?_ ?_ ?_
  all_goals intro a b
  all_goals pointwise [k0_pay4, k0_pay5, k0_pay6, k0_pay7, k0_pay8, k0_pay9, k0_pay10, k0_pay11, k0_pay12, k0_pay13, normed, unit]

/-- A later point leaves the scratch as it found it. -/
theorem rows_later (c : Dev nD) (t : Fin cfg0.N) (h0 : ¬t.val % 4 = 0) (hp : t.val - 1 < cfg0.N) :
    (outsAt0 m c t.val t.isLt).2 = (outsAt0 m c (t.val - 1) hp).2 := by
  rw [outsAt0_B m c t h0]
  unfold sout0_B_0
  rfl

/-- The first point of a run writes the product with its block. -/
theorem out_first (c : Dev nD) (t : Fin cfg0.N) (h0 : t.val % 4 = 0) :
    (outsAt0 m c t.val t.isLt).1 = prod (normed (iblk m c 0 t) (iblk m c 1 t) (iblk m c 2 t) (iblk m c 3 t)) (iblk m c 4 t) (iblk m c 5 t) := by
  rw [outsAt0_A m c t h0]
  frame_out
  rw [read_all, canon_rows (normed (iblk m c 0 t) (iblk m c 1 t) (iblk m c 2 t) (iblk m c 3 t))]
  · refine canon_cols _ _ _ _ _ _ _ _ _ ?_ ?_ ?_ ?_ ?_ ?_ ?_ ?_
    all_goals intro a b
    all_goals pointwise [k0_pay1, k0_pay2, k0_pay3, k0_pay14, k0_pay15, k0_pay16, k0_pay17, k0_pay18, k0_pay19, prod]
  all_goals intro a b
  all_goals pointwise [k0_pay4, k0_pay5, k0_pay6, k0_pay7, k0_pay8, k0_pay9, k0_pay10, k0_pay11, k0_pay12, k0_pay13, normed, unit]

/-- A later point writes the product of the scratch with its block. -/
theorem out_later (c : Dev nD) (t : Fin cfg0.N) (h0 : ¬t.val % 4 = 0) (hp : t.val - 1 < cfg0.N) :
    (outsAt0 m c t.val t.isLt).1 = prod (outsAt0 m c (t.val - 1) hp).2 (iblk m c 4 t) (iblk m c 5 t) := by
  rw [outsAt0_B m c t h0]
  frame_out
  simp only [read_whole]
  refine canon_cols _ _ _ _ _ _ _ _ _ ?_ ?_ ?_ ?_ ?_ ?_ ?_ ?_
  all_goals intro a b
  all_goals pointwise [k0_pay1, k0_pay2, k0_pay3, k0_pay14, k0_pay15, k0_pay16, k0_pay17, k0_pay18, k0_pay19, prod]

end Cert.OutIdeal.Norm

end
-- ==== Proof.OutArray.lean ====
/- The array the projection of the two attentions' results writes, as a function of its argument arrays. -/
module

public import proofs.«01_k».proof.Proof.OutBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.OutIdeal.Norm
open Cert.OutIdeal Cert.OutIdeal.Gen

/-- One attention's normalised row. -/
def part (X : Vec Ideal S16384x2048 .f32) (G : Vec Ideal S2048 .f32) (n : Fin 16384) (d : Fin 2048) : EReal :=
  X (ix2 n d) * Ideal.rsqrt (Ideal.div (∑ d' : Fin 2048, X (ix2 n d') * X (ix2 n d')) (Ideal.ofBits FTy.f32 1157627904#32)
    + Ideal.ofBits FTy.f32 897988541#32) * G (ix1 d)

/-- A token's two normalised rows, side by side. -/
def row (X Y : Vec Ideal S16384x2048 .f32) (G H : Vec Ideal S2048 .f32) (n : Fin 16384) (d : Fin 4096) : EReal :=
  if h : d.val < 2048 then part X G n ⟨d.val, h⟩ else part Y H n ⟨d.val - 2048, by omega⟩

/-- The result: the normalised rows times the matrix, added to the residual. -/
def result (X Y : Vec Ideal S16384x2048 .f32) (G H : Vec Ideal S2048 .f32) (W : Vec Ideal S4096x4096 .f32) (R : Vec Ideal S16384x4096 .f32) :
    Vec Ideal S16384x4096 .f32 := fun i =>
  R i + ∑ d : Fin 4096, row X Y G H (i 0) d * W (ix2 d (i 1))

variable (m : (ℓ : Loc nD τ sig) → Buf (Elt Ideal) ℓ)

/-- Where each window's block sits: the token block is the point's number divided by 4, the column block the remainder. -/
theorem idx : ∀ t : Fin cfg0.N, win0_0.index t = ![t.val / 4, 0] ∧ win0_1.index t = ![t.val / 4, 0] ∧ win0_2.index t = ![0, 0]
    ∧ win0_3.index t = ![0, 0] ∧ win0_4.index t = ![0, t.val % 4] ∧ win0_5.index t = ![t.val / 4, t.val % 4] :=
  (by decide +kernel : ∀ t : Fin grid0.N, _)

theorem lt_N (t : Fin cfg0.N) : t.val < 128 := lt_of_lt_of_eq t.isLt N_0

theorem x_blk (c : Dev nD) (t : Fin cfg0.N) (r : Fin 512) (l : Fin 2048) (n : Fin 16384) (hn : n.val = 512 * (t.val / 4) + r.val) :
    (show Vec Ideal S512x2048 .f32 from iblk m c 0 t) (ix2 r l) = m ((c.tc : Thread nD τ).loc main_arg0) (ix2 n l) := by
  blk_ext [iblk, V, idx t]

theorem y_blk (c : Dev nD) (t : Fin cfg0.N) (r : Fin 512) (l : Fin 2048) (n : Fin 16384) (hn : n.val = 512 * (t.val / 4) + r.val) :
    (show Vec Ideal S512x2048 .f32 from iblk m c 1 t) (ix2 r l) = m ((c.tc : Thread nD τ).loc main_arg1) (ix2 n l) := by
  blk_ext [iblk, V, idx t]

theorem g_blk (c : Dev nD) (t : Fin cfg0.N) (l : Fin 2048) :
    (show Vec Ideal S1x2048 .f32 from iblk m c 2 t) (ix2 0 l) = m ((c.tc : Thread nD τ).loc main_arg2) (ix1 l) := by
  blk_simp [iblk]
  entry_read
  pointwise
  blk_ext [iblk, V, idx t]

theorem h_blk (c : Dev nD) (t : Fin cfg0.N) (l : Fin 2048) :
    (show Vec Ideal S1x2048 .f32 from iblk m c 3 t) (ix2 0 l) = m ((c.tc : Thread nD τ).loc main_arg3) (ix1 l) := by
  blk_simp [iblk]
  entry_read
  pointwise
  blk_ext [iblk, V, idx t]

theorem w_blk (c : Dev nD) (t : Fin cfg0.N) (d : Fin 4096) (l : Fin 1024) (e : Fin 4096) (he : e.val = 1024 * (t.val % 4) + l.val) :
    (show Vec Ideal S4096x1024 .bf16 from iblk m c 4 t) (ix2 d l) = m ((c.tc : Thread nD τ).loc main_arg4) (ix2 d e) := by
  blk_simp [iblk]
  entry_read
  pointwise
  blk_ext [iblk, V, idx t]

theorem r_blk (c : Dev nD) (t : Fin cfg0.N) (r : Fin 512) (l : Fin 1024) (n : Fin 16384) (e : Fin 4096) (hn : n.val = 512 * (t.val / 4) + r.val) (he : e.val = 1024 * (t.val % 4) + l.val) :
    (show Vec Ideal S512x1024 .f32 from iblk m c 5 t) (ix2 r l) = m ((c.tc : Thread nD τ).loc main_arg5) (ix2 n e) := by
  blk_ext [iblk, V, idx t]

theorem unit_x (c : Dev nD) (t : Fin cfg0.N) (r : Fin 512) (d : Fin 2048) (n : Fin 16384) (hn : n.val = 512 * (t.val / 4) + r.val) :
    unit (iblk m c 0 t) (iblk m c 2 t) r d = part (m ((c.tc : Thread nD τ).loc main_arg0)) (m ((c.tc : Thread nD τ).loc main_arg2)) n d := by
  have hx := fun l => x_blk m c t r l n hn
  have hg := g_blk m c t d
  dsimp only at hx hg
  unfold unit part
  simp only [hx, hg]

theorem unit_y (c : Dev nD) (t : Fin cfg0.N) (r : Fin 512) (d : Fin 2048) (n : Fin 16384) (hn : n.val = 512 * (t.val / 4) + r.val) :
    unit (iblk m c 1 t) (iblk m c 3 t) r d = part (m ((c.tc : Thread nD τ).loc main_arg1)) (m ((c.tc : Thread nD τ).loc main_arg3)) n d := by
  have hx := fun l => y_blk m c t r l n hn
  have hg := h_blk m c t d
  dsimp only at hx hg
  unfold unit part
  simp only [hx, hg]

/-- The normalised block at an index is the token's normalised row. -/
theorem normed_blk (c : Dev nD) (t : Fin cfg0.N) (r : Fin 512) (d : Fin 4096) (n : Fin 16384) (hn : n.val = 512 * (t.val / 4) + r.val) :
    normed (iblk m c 0 t) (iblk m c 1 t) (iblk m c 2 t) (iblk m c 3 t) (ix2 r d) = row (m ((c.tc : Thread nD τ).loc main_arg0)) (m ((c.tc : Thread nD τ).loc main_arg1)) (m ((c.tc : Thread nD τ).loc main_arg2)) (m ((c.tc : Thread nD τ).loc main_arg3)) n d := by
  rw [normed_at]
  unfold row
  by_cases h : d.val < 2048
  · rw [dif_pos h, dif_pos h]
    exact unit_x m c t r _ n hn
  · rw [dif_neg h, dif_neg h]
    exact unit_y m c t r _ n hn

/-- After any point the scratch holds its tokens' normalised rows. -/
theorem scratch (c : Dev nD) : ∀ (p q : ℕ) (hp : p < 4) (t : Fin cfg0.N), t.val = 4 * q + p → ∀ (r : Fin 512) (d : Fin 4096) (n : Fin 16384),
    n.val = 512 * q + r.val → (show Vec Ideal S512x4096 .bf16 from (outsAt0 m c t.val t.isLt).2) (ix2 r d)
      = row (m ((c.tc : Thread nD τ).loc main_arg0)) (m ((c.tc : Thread nD τ).loc main_arg1)) (m ((c.tc : Thread nD τ).loc main_arg2)) (m ((c.tc : Thread nD τ).loc main_arg3)) n d
  | 0, q, hp, t, ht, r, d, n, hn => by
    rw [rows_first m c t (by omega)]
    exact normed_blk m c t r d n (by omega)
  | p + 1, q, hp, t, ht, r, d, n, hn => by
    have hl := t.isLt
    rw [rows_later m c t (by omega) (by omega)]
    exact scratch c p q (by omega) ⟨t.val - 1, by omega⟩ (by show t.val - 1 = _; omega) r d n hn

/-- After any point the output block holds its part of the result. -/
theorem out_at (c : Dev nD) (t : Fin cfg0.N) (r : Fin 512) (l : Fin 1024) (n : Fin 16384) (e : Fin 4096)
    (hn : n.val = 512 * (t.val / 4) + r.val) (he : e.val = 1024 * (t.val % 4) + l.val) :
    (show Vec Ideal S512x1024 .f32 from (outsAt0 m c t.val t.isLt).1) (ix2 r l)
      = (show Vec Ideal S16384x4096 .f32 from m ((c.tc : Thread nD τ).loc main_arg5)) (ix2 n e)
        + ∑ d : Fin 4096, row (m ((c.tc : Thread nD τ).loc main_arg0)) (m ((c.tc : Thread nD τ).loc main_arg1)) (m ((c.tc : Thread nD τ).loc main_arg2)) (m ((c.tc : Thread nD τ).loc main_arg3)) n d * (show Vec Ideal S4096x4096 .f32 from m ((c.tc : Thread nD τ).loc main_arg4)) (ix2 d e) := by
  have hw := fun d => w_blk m c t d l e he
  dsimp only at hw
  rw [add_comm]
  by_cases h0 : t.val % 4 = 0
  · rw [out_first m c t h0]
    refine congrArg₂ (· + ·) ?_ (r_blk m c t r l n e hn he)
    refine Finset.sum_congr rfl fun d _ => congrArg₂ (· * ·) ?_ (hw d)
    exact normed_blk m c t r d n hn
  · have hl := t.isLt
    rw [out_later m c t h0 (by omega)]
    refine congrArg₂ (· + ·) ?_ (r_blk m c t r l n e hn he)
    refine Finset.sum_congr rfl fun d _ => congrArg₂ (· * ·) ?_ (hw d)
    exact scratch m c (t.val % 4 - 1) (t.val / 4) (by omega) ⟨t.val - 1, by omega⟩ (by show t.val - 1 = _; omega) r d n hn

/-- The array after the run. -/
theorem final (c : Dev nD) : Cert.OutIdeal.Value.G6 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [← Cert.OutIdeal.Value.final6]
  refine (dats m 0 c).arrAt_eq_of_covers 6 _ (by decide +kernel) fun t hf y => ?_
  blk_simp
  rw [after0_6]
  have ht := lt_N t
  idx_vars y
  have hi : win0_6.index t = ![t.val / 4, t.val % 4] := (by decide +kernel : ∀ t : Fin grid0.N, win0_6.index t = ![t.val / 4, t.val % 4]) t
  have he : (ix2 (⟨512 * (t.val / 4) + y0.val, by omega⟩ : Fin 16384) (⟨1024 * (t.val % 4) + y1.val, by omega⟩ : Fin 4096) : S16384x4096.Idx)
      = ((cfg0.win 6).blk t).view.emb (ix2 y0 y1) := by
    blk_ext [hi]
  refine Eq.trans ?_ (congrArg (result _ _ _ _ _ _) he)
  exact out_at m c t y0 y1 _ _ rfl rfl

end Cert.OutIdeal.Norm

end
-- ==== Proof.OutClaim.lean ====
/- The projection of the two attentions' results computes its reference. -/
module

public import proofs.«01_k».proof.Defs
public import proofs.«01_k».proof.Proof.OutArray
public import proofs.«01_k».proof.Proof.Gen.OutReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_OutReferenceIdeal : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic_OutIdeal_OutReferenceIdeal : algebraic_OutIdeal_OutReferenceIdeal := by
  intro m ρ m' ρ' _ hagree
  refine ⟨_, Cert.OutIdeal.Value.run (F := Ideal) m ρ, ?_⟩
  refine (θ_run Cert.OutReferenceIdeal.defs _ _).mono (fun _ h c => ⟨?_, (h c).2⟩) (Cert.OutReferenceIdeal.Value.run (F := Ideal) m' ρ')
  rw [(h c).1]
  simp only [hagree c]
  rw [Cert.OutIdeal.Norm.final]
  funext i
  idx_vars i
  pointwise [Cert.OutIdeal.Norm.result, Cert.OutIdeal.Norm.row, Cert.OutIdeal.Norm.part]
  simp only [hagree c]

end Cert.Proof

end
-- ==== Proof.PqBlock.lean ====
/- One grid point of the projection to the experts' queries: the scratch it carries and the block it writes. -/
module

public import proofs.«01_k».proof.Proof.Gen.PqIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.PqIdeal.Norm
open Cert.PqIdeal Cert.PqIdeal.Gen

variable (m : (ℓ : Loc nD τ sig) → Buf (Elt Ideal) ℓ)

/-- A load of the whole buffer reads what the stores left. -/
theorem read_all {e : EltTy} {κ : Kind} {sp : Space} (v : View sig κ sp S512x4096 e) (L : List (View.Piece (Elt Ideal) S512x4096 e)) :
    v.readCov L (Rect.unit (s := S512x4096) ![0, 0] ![512, 4096] inb_S512x4096_S512x4096_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- Four row tiles make up one function of the row. -/
theorem canon_rows (f : Vec Ideal S512x4096 .bf16) (p0 p1 p2 p3 : Vec Ideal S128x4096 .bf16)
    (h0 : ∀ (a : Fin 128) (b : Fin 4096), p0 (ix2 a b) = f (ix2 ⟨a.val, by omega⟩ b))
    (h1 : ∀ (a : Fin 128) (b : Fin 4096), p1 (ix2 a b) = f (ix2 ⟨128 + a.val, by omega⟩ b))
    (h2 : ∀ (a : Fin 128) (b : Fin 4096), p2 (ix2 a b) = f (ix2 ⟨256 + a.val, by omega⟩ b))
    (h3 : ∀ (a : Fin 128) (b : Fin 4096), p3 (ix2 a b) = f (ix2 ⟨384 + a.val, by omega⟩ b)) :
    View.canon (Val := Elt Ideal) (s := S512x4096) (e := .bf16)
      [⟨Rect.unit (s := S512x4096) ![384, 0] ![128, 4096] inb_S512x4096_S128x4096_384_0, p3⟩,
       ⟨Rect.unit (s := S512x4096) ![256, 0] ![128, 4096] inb_S512x4096_S128x4096_256_0, p2⟩,
       ⟨Rect.unit (s := S512x4096) ![128, 0] ![128, 4096] inb_S512x4096_S128x4096_128_0, p1⟩,
       ⟨Rect.unit (s := S512x4096) ![0, 0] ![128, 4096] inb_S512x4096_S128x4096_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- Eight column tiles make up one function of the column. -/
theorem canon_cols (f : Vec Ideal S512x1024 .f32) (p0 p1 p2 p3 p4 p5 p6 p7 : Vec Ideal S512x128 .f32)
    (h0 : ∀ (a : Fin 512) (b : Fin 128), p0 (ix2 a b) = f (ix2 a ⟨b.val, by omega⟩))
    (h1 : ∀ (a : Fin 512) (b : Fin 128), p1 (ix2 a b) = f (ix2 a ⟨128 + b.val, by omega⟩))
    (h2 : ∀ (a : Fin 512) (b : Fin 128), p2 (ix2 a b) = f (ix2 a ⟨256 + b.val, by omega⟩))
    (h3 : ∀ (a : Fin 512) (b : Fin 128), p3 (ix2 a b) = f (ix2 a ⟨384 + b.val, by omega⟩))
    (h4 : ∀ (a : Fin 512) (b : Fin 128), p4 (ix2 a b) = f (ix2 a ⟨512 + b.val, by omega⟩))
    (h5 : ∀ (a : Fin 512) (b : Fin 128), p5 (ix2 a b) = f (ix2 a ⟨640 + b.val, by omega⟩))
    (h6 : ∀ (a : Fin 512) (b : Fin 128), p6 (ix2 a b) = f (ix2 a ⟨768 + b.val, by omega⟩))
    (h7 : ∀ (a : Fin 512) (b : Fin 128), p7 (ix2 a b) = f (ix2 a ⟨896 + b.val, by omega⟩)) :
    View.canon (Val := Elt Ideal) (s := S512x1024) (e := .f32)
      [⟨Rect.unit (s := S512x1024) ![0, 896] ![512, 128] inb_S512x1024_S512x128_0_896, p7⟩,
       ⟨Rect.unit (s := S512x1024) ![0, 768] ![512, 128] inb_S512x1024_S512x128_0_768, p6⟩,
       ⟨Rect.unit (s := S512x1024) ![0, 640] ![512, 128] inb_S512x1024_S512x128_0_640, p5⟩,
       ⟨Rect.unit (s := S512x1024) ![0, 512] ![512, 128] inb_S512x1024_S512x128_0_512, p4⟩,
       ⟨Rect.unit (s := S512x1024) ![0, 384] ![512, 128] inb_S512x1024_S512x128_0_384, p3⟩,
       ⟨Rect.unit (s := S512x1024) ![0, 256] ![512, 128] inb_S512x1024_S512x128_0_256, p2⟩,
       ⟨Rect.unit (s := S512x1024) ![0, 128] ![512, 128] inb_S512x1024_S512x128_0_128, p1⟩,
       ⟨Rect.unit (s := S512x1024) ![0, 0] ![512, 128] inb_S512x1024_S512x128_0_0, p0⟩] = f := by
  funext y
  canon_tiles x k
  · idx_vars x
    rw [h7]; blk_ext
  · idx_vars x
    rw [h6]; blk_ext
  · idx_vars x
    rw [h5]; blk_ext
  · idx_vars x
    rw [h4]; blk_ext
  · idx_vars x
    rw [h3]; blk_ext
  · idx_vars x
    rw [h2]; blk_ext
  · idx_vars x
    rw [h1]; blk_ext
  · idx_vars x
    rw [h0]; blk_ext

/-- A carried scratch buffer, read whole, is what the point before left in it. -/
theorem read_whole (b : Ref sig .tc) (h : (Memref.whole b).IsWhole) (X : b.ty.shape.Idx → Elt Ideal b.ty.elt) :
    View.read (Elt Ideal) (View.whole b) (h.unread X) = X :=
  h.read_unread X

/-- The block's rows, divided by their root mean square and scaled. -/
def normed (X : Vec Ideal S512x4096 .f32) (G : Vec Ideal S1x4096 .f32) : Vec Ideal S512x4096 .bf16 := fun y =>
  X y * Ideal.rsqrt (Ideal.div (∑ d : Fin 4096, X (ix2 (y 0) d) * X (ix2 (y 0) d)) (Ideal.ofBits FTy.f32 1166016512#32)
    + Ideal.ofBits FTy.f32 897988541#32) * G (ix2 0 (y 1))

/-- The first point of a run leaves the normalised block in the scratch. -/
theorem rows_first (c : Dev nD) (t : Fin cfg0.N) (h0 : t.val % 2 = 0) :
    (outsAt0 m c t.val t.isLt).2 = normed (iblk m c 0 t) (iblk m c 1 t) := by
  rw [outsAt0_A m c t h0]
  frame_out
  refine canon_rows _ _ _ _ _ ?_ ?_ ?_ ?_
  all_goals intro a b
  all_goals pointwise [k0_pay1, k0_pay2, k0_pay12, k0_pay13, normed]

/-- A later point leaves the scratch as it found it. -/
theorem rows_later (c : Dev nD) (t : Fin cfg0.N) (h0 : ¬t.val % 2 = 0) (hp : t.val - 1 < cfg0.N) :
    (outsAt0 m c t.val t.isLt).2 = (outsAt0 m c (t.val - 1) hp).2 := by
  rw [outsAt0_B m c t h0]
  unfold sout0_B_0
  rfl

/-- The product of the normalised rows and a block of the matrix. -/
def prod (H : Vec Ideal S512x4096 .bf16) (W : Vec Ideal S4096x1024 .bf16) : Vec Ideal S512x1024 .f32 := fun y =>
  ∑ d : Fin 4096, H (ix2 (y 0) d) * W (ix2 d (y 1))

/-- The first point of a run writes the product with its block. -/
theorem out_first (c : Dev nD) (t : Fin cfg0.N) (h0 : t.val % 2 = 0) :
    (outsAt0 m c t.val t.isLt).1 = prod (normed (iblk m c 0 t) (iblk m c 1 t)) (iblk m c 2 t) := by
  rw [outsAt0_A m c t h0]
  frame_out
  rw [read_all, canon_rows (normed (iblk m c 0 t) (iblk m c 1 t))]
  · refine canon_cols _ _ _ _ _ _ _ _ _ ?_ ?_ ?_ ?_ ?_ ?_ ?_ ?_
    all_goals intro a b
    all_goals pointwise [k0_pay3, k0_pay4, k0_pay5, k0_pay6, k0_pay7, k0_pay8, k0_pay9, k0_pay10, k0_pay11, prod]
  all_goals intro a b
  all_goals pointwise [k0_pay1, k0_pay2, k0_pay12, k0_pay13, normed]

/-- A later point writes the product of the scratch with its block. -/
theorem out_later (c : Dev nD) (t : Fin cfg0.N) (h0 : ¬t.val % 2 = 0) (hp : t.val - 1 < cfg0.N) :
    (outsAt0 m c t.val t.isLt).1 = prod (outsAt0 m c (t.val - 1) hp).2 (iblk m c 2 t) := by
  rw [outsAt0_B m c t h0]
  frame_out
  simp only [read_whole]
  refine canon_cols _ _ _ _ _ _ _ _ _ ?_ ?_ ?_ ?_ ?_ ?_ ?_ ?_
  all_goals intro a b
  all_goals pointwise [k0_pay3, k0_pay4, k0_pay5, k0_pay6, k0_pay7, k0_pay8, k0_pay9, k0_pay10, k0_pay11, prod]

end Cert.PqIdeal.Norm

end
-- ==== Proof.PqArray.lean ====
/- The array the projection to the experts' queries writes, as a function of its argument arrays. -/
module

public import proofs.«01_k».proof.Proof.PqBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.PqIdeal.Norm
open Cert.PqIdeal Cert.PqIdeal.Gen

/-- A token's normalised row. -/
def row (X : Vec Ideal S16384x4096 .f32) (G : Vec Ideal S4096 .f32) (n : Fin 16384) (d : Fin 4096) : EReal :=
  X (ix2 n d) * Ideal.rsqrt (Ideal.div (∑ d' : Fin 4096, X (ix2 n d') * X (ix2 n d')) (Ideal.ofBits FTy.f32 1166016512#32)
    + Ideal.ofBits FTy.f32 897988541#32) * G (ix1 d)

/-- The result: the normalised rows times the matrix. -/
def result (X : Vec Ideal S16384x4096 .f32) (G : Vec Ideal S4096 .f32) (W : Vec Ideal S4096x2048 .f32) : Vec Ideal S16384x2048 .f32 := fun i =>
  ∑ d : Fin 4096, row X G (i 0) d * W (ix2 d (i 1))

variable (m : (ℓ : Loc nD τ sig) → Buf (Elt Ideal) ℓ)

/-- Where each window's block sits: the token block is the point's number divided by 2, the column block the remainder. -/
theorem idx : ∀ t : Fin cfg0.N, win0_0.index t = ![t.val / 2, 0] ∧ win0_1.index t = ![0, 0] ∧ win0_2.index t = ![0, t.val % 2] :=
  (by decide +kernel : ∀ t : Fin grid0.N, _)

theorem lt_N (t : Fin cfg0.N) : t.val < 64 := lt_of_lt_of_eq t.isLt N_0

theorem x_blk (c : Dev nD) (t : Fin cfg0.N) (r : Fin 512) (l : Fin 4096) (n : Fin 16384) (hn : n.val = 512 * (t.val / 2) + r.val) :
    (show Vec Ideal S512x4096 .f32 from iblk m c 0 t) (ix2 r l) = m ((c.tc : Thread nD τ).loc main_arg0) (ix2 n l) := by
  blk_ext [iblk, V, idx t]

theorem g_blk (c : Dev nD) (t : Fin cfg0.N) (l : Fin 4096) :
    (show Vec Ideal S1x4096 .f32 from iblk m c 1 t) (ix2 0 l) = m ((c.tc : Thread nD τ).loc main_arg1) (ix1 l) := by
  blk_simp [iblk]
  entry_read
  pointwise
  blk_ext [iblk, V, idx t]

theorem w_blk (c : Dev nD) (t : Fin cfg0.N) (d : Fin 4096) (l : Fin 1024) (e : Fin 2048) (he : e.val = 1024 * (t.val % 2) + l.val) :
    (show Vec Ideal S4096x1024 .bf16 from iblk m c 2 t) (ix2 d l) = m ((c.tc : Thread nD τ).loc main_arg2) (ix2 d e) := by
  blk_simp [iblk]
  entry_read
  pointwise
  blk_ext [iblk, V, idx t]

theorem normed_at (X : Vec Ideal S512x4096 .f32) (G : Vec Ideal S1x4096 .f32) (r : Fin 512) (d : Fin 4096) :
    normed X G (ix2 r d) = X (ix2 r d) * Ideal.rsqrt (Ideal.div (∑ d' : Fin 4096, X (ix2 r d') * X (ix2 r d')) (Ideal.ofBits FTy.f32 1166016512#32)
      + Ideal.ofBits FTy.f32 897988541#32) * G (ix2 0 d) := rfl

/-- The normalised block at an index is the token's normalised row. -/
theorem normed_blk (c : Dev nD) (t : Fin cfg0.N) (r : Fin 512) (d : Fin 4096) (n : Fin 16384) (hn : n.val = 512 * (t.val / 2) + r.val) :
    normed (iblk m c 0 t) (iblk m c 1 t) (ix2 r d)
      = row (m ((c.tc : Thread nD τ).loc main_arg0)) (m ((c.tc : Thread nD τ).loc main_arg1)) n d := by
  have hx := fun l => x_blk m c t r l n hn
  have hg := g_blk m c t d
  dsimp only at hx hg
  rw [normed_at]
  unfold row
  simp only [hx, hg]

/-- After any point the scratch holds its tokens' normalised rows. -/
theorem scratch (c : Dev nD) : ∀ (p q : ℕ) (hp : p < 2) (t : Fin cfg0.N), t.val = 2 * q + p → ∀ (r : Fin 512) (d : Fin 4096) (n : Fin 16384),
    n.val = 512 * q + r.val → (show Vec Ideal S512x4096 .bf16 from (outsAt0 m c t.val t.isLt).2) (ix2 r d)
      = row (m ((c.tc : Thread nD τ).loc main_arg0)) (m ((c.tc : Thread nD τ).loc main_arg1)) n d
  | 0, q, hp, t, ht, r, d, n, hn => by
    rw [rows_first m c t (by omega)]
    exact normed_blk m c t r d n (by omega)
  | p + 1, q, hp, t, ht, r, d, n, hn => by
    have hl := t.isLt
    rw [rows_later m c t (by omega) (by omega)]
    exact scratch c p q (by omega) ⟨t.val - 1, by omega⟩ (by show t.val - 1 = _; omega) r d n hn

/-- After any point the output block holds its part of the result. -/
theorem out_at (c : Dev nD) (t : Fin cfg0.N) (r : Fin 512) (l : Fin 1024) (n : Fin 16384) (e : Fin 2048)
    (hn : n.val = 512 * (t.val / 2) + r.val) (he : e.val = 1024 * (t.val % 2) + l.val) :
    (show Vec Ideal S512x1024 .f32 from (outsAt0 m c t.val t.isLt).1) (ix2 r l)
      = ∑ d : Fin 4096, row (m ((c.tc : Thread nD τ).loc main_arg0)) (m ((c.tc : Thread nD τ).loc main_arg1)) n d
          * (show Vec Ideal S4096x2048 .f32 from m ((c.tc : Thread nD τ).loc main_arg2)) (ix2 d e) := by
  have hw := fun d => w_blk m c t d l e he
  dsimp only at hw
  by_cases h0 : t.val % 2 = 0
  · rw [out_first m c t h0]
    refine Finset.sum_congr rfl fun d _ => congrArg₂ (· * ·) ?_ (hw d)
    exact normed_blk m c t r d n hn
  · have hl := t.isLt
    rw [out_later m c t h0 (by omega)]
    refine Finset.sum_congr rfl fun d _ => congrArg₂ (· * ·) ?_ (hw d)
    have h1 : t.val % 2 - 1 + 1 = t.val % 2 := by omega
    exact scratch m c (t.val % 2 - 1) (t.val / 2) (by omega) ⟨t.val - 1, by omega⟩ (by show t.val - 1 = _; omega) r d n hn

/-- The array after the run. -/
theorem final (c : Dev nD) : Cert.PqIdeal.Value.G3 m c = result (m ((c.tc : Thread nD τ).loc main_arg0)) (m ((c.tc : Thread nD τ).loc main_arg1))
    (m ((c.tc : Thread nD τ).loc main_arg2)) := by
  rw [← Cert.PqIdeal.Value.final3]
  refine (dats m 0 c).arrAt_eq_of_covers 3 _ (by decide +kernel) fun t hf y => ?_
  blk_simp
  rw [after0_3]
  have ht := lt_N t
  idx_vars y
  have hi : win0_3.index t = ![t.val / 2, t.val % 2] := (by decide +kernel : ∀ t : Fin grid0.N, win0_3.index t = ![t.val / 2, t.val % 2]) t
  have he : (ix2 (⟨512 * (t.val / 2) + y0.val, by omega⟩ : Fin 16384) (⟨1024 * (t.val % 2) + y1.val, by omega⟩ : Fin 2048) : S16384x2048.Idx)
      = ((cfg0.win 3).blk t).view.emb (ix2 y0 y1) := by
    blk_ext [hi]
  refine Eq.trans ?_ (congrArg (result _ _ _) he)
  exact out_at m c t y0 y1 _ _ rfl rfl

end Cert.PqIdeal.Norm

end
-- ==== Proof.PqClaim.lean ====
/- The projection to the experts' queries computes its reference. -/
module

public import proofs.«01_k».proof.Defs
public import proofs.«01_k».proof.Proof.PqArray
public import proofs.«01_k».proof.Proof.Gen.PqReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_PqReferenceIdeal : quiescent_PqReferenceIdeal := fun m ρ _ =>
  (θ_run Cert.PqReferenceIdeal.defs _ _).mono (fun r h => ⟨fun c => (h c).2, sem_eq_zero_of_no_sems (by decide) r.2⟩)
    (Cert.PqReferenceIdeal.Value.run (F := Ideal) m ρ)

theorem algebraic_PqIdeal_PqReferenceIdeal : algebraic_PqIdeal_PqReferenceIdeal := by
  intro m ρ m' ρ' _ hagree
  refine ⟨_, Cert.PqIdeal.Value.run (F := Ideal) m ρ, ?_⟩
  refine (θ_run Cert.PqReferenceIdeal.defs _ _).mono (fun _ h c => ⟨?_, (h c).2⟩) (Cert.PqReferenceIdeal.Value.run (F := Ideal) m' ρ')
  rw [(h c).1]
  simp only [hagree c]
  rw [Cert.PqIdeal.Norm.final]
  funext i
  idx_vars i
  pointwise [Cert.PqIdeal.Norm.result, Cert.PqIdeal.Norm.row]

end Cert.Proof

end
-- ==== Proof.KvBlock.lean ====
/- One grid point of the projection of the memory tokens: the scratch it carries and the block it writes. -/
module

public import proofs.«01_k».proof.Proof.Gen.KvIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.KvIdeal.Norm
open Cert.KvIdeal Cert.KvIdeal.Gen

variable (m : (ℓ : Loc nD τ sig) → Buf (Elt Ideal) ℓ)

/-- A load of the whole buffer reads what the stores left. -/
theorem read_all {e : EltTy} {κ : Kind} {sp : Space} (v : View sig κ sp S512x4096 e) (L : List (View.Piece (Elt Ideal) S512x4096 e)) :
    v.readCov L (Rect.unit (s := S512x4096) ![0, 0] ![512, 4096] inb_S512x4096_S512x4096_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- A carried scratch buffer, read whole, is what the point before left in it. -/
theorem read_whole (b : Ref sig .tc) (h : (Memref.whole b).IsWhole) (X : b.ty.shape.Idx → Elt Ideal b.ty.elt) :
    View.read (Elt Ideal) (View.whole b) (h.unread X) = X :=
  h.read_unread X

/-- Four row tiles make up one function of the row. -/
theorem canon_rows (f : Vec Ideal S512x4096 .bf16) (p0 p1 p2 p3 : Vec Ideal S128x4096 .bf16)
    (h0 : ∀ (a : Fin 128) (b : Fin 4096), p0 (ix2 a b) = f (ix2 ⟨a.val, by omega⟩ b))
    (h1 : ∀ (a : Fin 128) (b : Fin 4096), p1 (ix2 a b) = f (ix2 ⟨128 + a.val, by omega⟩ b))
    (h2 : ∀ (a : Fin 128) (b : Fin 4096), p2 (ix2 a b) = f (ix2 ⟨256 + a.val, by omega⟩ b))
    (h3 : ∀ (a : Fin 128) (b : Fin 4096), p3 (ix2 a b) = f (ix2 ⟨384 + a.val, by omega⟩ b)) :
    View.canon (Val := Elt Ideal) (s := S512x4096) (e := .bf16)
      [⟨Rect.unit (s := S512x4096) ![384, 0] ![128, 4096] inb_S512x4096_S128x4096_384_0, p3⟩,
       ⟨Rect.unit (s := S512x4096) ![256, 0] ![128, 4096] inb_S512x4096_S128x4096_256_0, p2⟩,
       ⟨Rect.unit (s := S512x4096) ![128, 0] ![128, 4096] inb_S512x4096_S128x4096_128_0, p1⟩,
       ⟨Rect.unit (s := S512x4096) ![0, 0] ![128, 4096] inb_S512x4096_S128x4096_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- Four heads make up one function of the head and the lane. -/
theorem canon_heads (f : Fin 512 → Fin 4 → Fin 128 → EReal) (p0 p1 p2 p3 : Vec Ideal S512x128 .f32)
    (h0 : ∀ (a : Fin 512) (b : Fin 128), p0 (ix2 a b) = f a 0 b)
    (h1 : ∀ (a : Fin 512) (b : Fin 128), p1 (ix2 a b) = f a 1 b)
    (h2 : ∀ (a : Fin 512) (b : Fin 128), p2 (ix2 a b) = f a 2 b)
    (h3 : ∀ (a : Fin 512) (b : Fin 128), p3 (ix2 a b) = f a 3 b) :
    View.canon (Val := Elt Ideal) (s := S512x512) (e := .f32)
      [⟨Rect.unit (s := S512x512) ![0, 384] ![512, 128] inb_S512x512_S512x128_0_384, p3⟩,
       ⟨Rect.unit (s := S512x512) ![0, 256] ![512, 128] inb_S512x512_S512x128_0_256, p2⟩,
       ⟨Rect.unit (s := S512x512) ![0, 128] ![512, 128] inb_S512x512_S512x128_0_128, p1⟩,
       ⟨Rect.unit (s := S512x512) ![0, 0] ![512, 128] inb_S512x512_S512x128_0_0, p0⟩] = fun y : S512x512.Idx =>
        f (y 0) ⟨(show Fin 512 from y 1).val / 128, by omega⟩ ⟨(show Fin 512 from y 1).val % 128, by omega⟩ := by
  funext y
  canon_tiles x k
  · idx_vars x
    rw [h3]
    refine congr (congr (congrArg f (Fin.ext ?_)) (Fin.ext ?_)) (Fin.ext ?_)
    · show x0.val = (y 0).val; omega
    · show 3 = (y 1).val / 128; omega
    · show x1.val = (y 1).val % 128; omega
  · idx_vars x
    rw [h2]
    refine congr (congr (congrArg f (Fin.ext ?_)) (Fin.ext ?_)) (Fin.ext ?_)
    · show x0.val = (y 0).val; omega
    · show 2 = (y 1).val / 128; omega
    · show x1.val = (y 1).val % 128; omega
  · idx_vars x
    rw [h1]
    refine congr (congr (congrArg f (Fin.ext ?_)) (Fin.ext ?_)) (Fin.ext ?_)
    · show x0.val = (y 0).val; omega
    · show 1 = (y 1).val / 128; omega
    · show x1.val = (y 1).val % 128; omega
  · idx_vars x
    rw [h0]
    refine congr (congr (congrArg f (Fin.ext ?_)) (Fin.ext ?_)) (Fin.ext ?_)
    · show x0.val = (y 0).val; omega
    · show 0 = (y 1).val / 128; omega
    · show x1.val = (y 1).val % 128; omega

/-- The block's rows, divided by their root mean square and scaled. -/
def normed (X : Vec Ideal S512x4096 .f32) (G : Vec Ideal S1x4096 .f32) : Vec Ideal S512x4096 .bf16 := fun y =>
  X y * Ideal.rsqrt (Ideal.div (∑ d : Fin 4096, X (ix2 (y 0) d) * X (ix2 (y 0) d)) (Ideal.ofBits FTy.f32 1166016512#32)
    + Ideal.ofBits FTy.f32 897988541#32) * G (ix2 0 (y 1))

theorem normed_at (X : Vec Ideal S512x4096 .f32) (G : Vec Ideal S1x4096 .f32) (r : Fin 512) (d : Fin 4096) :
    normed X G (ix2 r d) = X (ix2 r d) * Ideal.rsqrt (Ideal.div (∑ d' : Fin 4096, X (ix2 r d') * X (ix2 r d')) (Ideal.ofBits FTy.f32 1166016512#32)
      + Ideal.ofBits FTy.f32 897988541#32) * G (ix2 0 d) := rfl

/-- The product of the normalised rows and the matrix, at a row, a head and a lane. -/
def prod (H : Vec Ideal S512x4096 .bf16) (W : Vec Ideal S4096x512 .bf16) (r : Fin 512) (h : Fin 4) (l : Fin 128) : EReal :=
  ∑ d : Fin 4096, H (ix2 r d) * W (ix2 d ⟨128 * h.val + l.val, by omega⟩)

/-- A head's lanes divided by their root mean square. -/
def unit (P : Fin 128 → EReal) (l : Fin 128) : EReal :=
  P l * Ideal.rsqrt (Ideal.div (∑ l' : Fin 128, P l' * P l') (Ideal.ofBits FTy.f32 1124073472#32) + Ideal.ofBits FTy.f32 897988541#32)

/-- The first point of a run leaves the normalised block in the scratch. -/
theorem rows_first (c : Dev nD) (t : Fin cfg0.N) (h0 : t.val % 2 = 0) :
    (outsAt0 m c t.val t.isLt).2 = normed (iblk m c 0 t) (iblk m c 1 t) := by
  rw [outsAt0_A m c t h0 h0 (by omega)]
  frame_out
  refine canon_rows _ _ _ _ _ ?_ ?_ ?_ ?_
  all_goals intro a b
  all_goals pointwise [k0_pay1, k0_pay2, k0_pay10, k0_pay11, normed]

/-- The first point of a run writes the normalised heads of its tokens. -/
theorem out_first (c : Dev nD) (t : Fin cfg0.N) (h0 : t.val % 2 = 0) : (outsAt0 m c t.val t.isLt).1 = fun y : S512x512.Idx =>
    (fun (r : Fin 512) (h : Fin 4) (l : Fin 128) => unit (prod (normed (iblk m c 0 t) (iblk m c 1 t)) (iblk m c 2 t) r h) l
      * (show Vec Ideal S1x512 .f32 from iblk m c 3 t) (ix2 0 ⟨128 * h.val + l.val, by omega⟩))
    (y 0) ⟨(show Fin 512 from y 1).val / 128, by omega⟩ ⟨(show Fin 512 from y 1).val % 128, by omega⟩ := by
  rw [outsAt0_A m c t h0 h0 (by omega)]
  frame_out
  rw [read_all, canon_rows (normed (iblk m c 0 t) (iblk m c 1 t))]
  · refine canon_heads (fun (r : Fin 512) (h : Fin 4) (l : Fin 128) => unit (prod (normed (iblk m c 0 t) (iblk m c 1 t)) (iblk m c 2 t) r h) l
      * (show Vec Ideal S1x512 .f32 from iblk m c 3 t) (ix2 0 ⟨128 * h.val + l.val, by omega⟩)) _ _ _ _ ?_ ?_ ?_ ?_
    all_goals intro a b
    all_goals pointwise [k0_pay3, k0_pay4, k0_pay5, k0_pay12, k0_pay13, k0_pay14, k0_pay15, prod, unit]
  all_goals intro a b
  all_goals pointwise [k0_pay1, k0_pay2, k0_pay10, k0_pay11, normed]

/-- The second point of a run writes the plain columns of its tokens. -/
theorem out_second (c : Dev nD) (t : Fin cfg0.N) (h0 : ¬t.val % 2 = 0) (hp : t.val - 1 < cfg0.N) : (outsAt0 m c t.val t.isLt).1 = fun y : S512x512.Idx =>
    (fun (r : Fin 512) (h : Fin 4) (l : Fin 128) => prod (outsAt0 m c (t.val - 1) hp).2 (iblk m c 2 t) r h l)
    (y 0) ⟨(show Fin 512 from y 1).val / 128, by omega⟩ ⟨(show Fin 512 from y 1).val % 128, by omega⟩ := by
  rw [outsAt0_B m c t h0 h0 (by omega)]
  frame_out
  simp only [read_whole]
  refine canon_heads (fun (r : Fin 512) (h : Fin 4) (l : Fin 128) => prod (outsAt0 m c (t.val - 1) hp).2 (iblk m c 2 t) r h l) _ _ _ _ ?_ ?_ ?_ ?_
  all_goals intro a b
  all_goals pointwise [k0_pay3, k0_pay6, k0_pay7, k0_pay8, k0_pay9, prod]

end Cert.KvIdeal.Norm

end
-- ==== Proof.KvArray.lean ====
/- The array the projection of the memory tokens writes, as a function of its argument arrays. -/
module

public import proofs.«01_k».proof.Proof.KvBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.KvIdeal.Norm
open Cert.KvIdeal Cert.KvIdeal.Gen

/-- A token's normalised row. -/
def row (X : Vec Ideal S1024x4096 .f32) (G : Vec Ideal S4096 .f32) (n : Fin 1024) (d : Fin 4096) : EReal :=
  X (ix2 n d) * Ideal.rsqrt (Ideal.div (∑ d' : Fin 4096, X (ix2 n d') * X (ix2 n d')) (Ideal.ofBits FTy.f32 1166016512#32)
    + Ideal.ofBits FTy.f32 897988541#32) * G (ix1 d)

/-- One column of one token: the normalised row times a column of the matrix. -/
def proj (X : Vec Ideal S1024x4096 .f32) (G : Vec Ideal S4096 .f32) (W : Vec Ideal S4096x1024 .f32) (n : Fin 1024) (e : Fin 1024) : EReal :=
  ∑ d : Fin 4096, row X G n d * W (ix2 d e)

/-- The result: four heads of keys, normalised and scaled, then the values as they are. -/
def cols (X : Vec Ideal S1024x4096 .f32) (G : Vec Ideal S4096 .f32) (W : Vec Ideal S4096x1024 .f32) (K : Vec Ideal S128 .f32) (n : Fin 1024) (e : Fin 1024) : EReal :=
  if e.val < 512 then unit (fun l => proj X G W n ⟨128 * (e.val / 128) + l.val, by omega⟩) ⟨e.val % 128, by omega⟩ * K (ix1 ⟨e.val % 128, by omega⟩)
  else proj X G W n e

/-- The result as an array. -/
def result (X : Vec Ideal S1024x4096 .f32) (G : Vec Ideal S4096 .f32) (W : Vec Ideal S4096x1024 .f32) (K : Vec Ideal S128 .f32) :
    Vec Ideal S1024x1024 .f32 := fun i => cols X G W K (i 0) (i 1)

variable (m : (ℓ : Loc nD τ sig) → Buf (Elt Ideal) ℓ)

/-- Where each window's block sits: the token block is the point's number divided by 2, the column block the remainder. -/
theorem idx : ∀ t : Fin cfg0.N, win0_0.index t = ![t.val / 2, 0] ∧ win0_1.index t = ![0, 0] ∧ win0_2.index t = ![0, t.val % 2] ∧ win0_3.index t = ![0, t.val % 2] :=
  (by decide +kernel : ∀ t : Fin grid0.N, _)

theorem lt_N (t : Fin cfg0.N) : t.val < 4 := lt_of_lt_of_eq t.isLt N_0

theorem x_blk (c : Dev nD) (t : Fin cfg0.N) (r : Fin 512) (l : Fin 4096) (n : Fin 1024) (hn : n.val = 512 * (t.val / 2) + r.val) :
    (show Vec Ideal S512x4096 .f32 from iblk m c 0 t) (ix2 r l) = m ((c.tc : Thread nD τ).loc main_arg0) (ix2 n l) := by
  blk_ext [iblk, V, idx t]

theorem g_blk (c : Dev nD) (t : Fin cfg0.N) (l : Fin 4096) :
    (show Vec Ideal S1x4096 .f32 from iblk m c 1 t) (ix2 0 l) = m ((c.tc : Thread nD τ).loc main_arg1) (ix1 l) := by
  blk_simp [iblk]
  entry_read
  pointwise
  blk_ext [iblk, V, idx t]

theorem w_blk (c : Dev nD) (t : Fin cfg0.N) (d : Fin 4096) (l : Fin 512) (e : Fin 1024) (he : e.val = 512 * (t.val % 2) + l.val) :
    (show Vec Ideal S4096x512 .bf16 from iblk m c 2 t) (ix2 d l) = m ((c.tc : Thread nD τ).loc main_arg2) (ix2 d e) := by
  blk_simp [iblk]
  entry_read
  pointwise
  blk_ext [iblk, V, idx t]

/-- The heads' gains laid end to end. -/
def ends (u0 u1 : Vec Ideal S512 .f32) : Vec Ideal S1024 .f32 :=
  concatenate S1024 0 [⟨S512, u0⟩, ⟨S512, u1⟩] concatenates_S512_S512_S1024_d0

/-- What the fourth window's array holds when the call starts. -/
theorem gains (c : Dev nD) : (V m c main_v7 : Vec Ideal S1x1024 .f32) = shapeCast S1x1024 (ends
      (shapeCast S512 (broadcastInDim S4x128 ![0, 1] bcast_S1x128_S4x128_0_1 (shapeCast S1x128 (m ((c.tc : Thread nD τ).loc main_arg3)) shapeCasts_S128_S1x128)) shapeCasts_S4x128_S512)
      ((broadcastInDim S512 ![] bcast_S_S512 : (⟨S_, .f32⟩ : BufTy).Contents (Elt Ideal) → (⟨S512, .f32⟩ : BufTy).Contents (Elt Ideal)) (constant (F := Ideal) S_ .f32 0x3F800000#32))) shapeCasts_S1024_S1x1024 := by
  unfold_abbrev_sides
  after_results
  rfl

/-- A head's gains. -/
theorem k_blk (c : Dev nD) (t : Fin cfg0.N) (ht : t.val % 2 = 0) (h : Fin 4) (l : Fin 128) (j : Fin 512) (hj : j.val = 128 * h.val + l.val) :
    (show Vec Ideal S1x512 .f32 from iblk m c 3 t) (ix2 0 j) = m ((c.tc : Thread nD τ).loc main_arg3) (ix1 l) := by
  blk_simp [iblk]
  rw [gains]
  pointwise [ends]
  blk_simp [idx t]
  rw [dif_pos (by omega)]
  blk_ext [idx t]

/-- The normalised block at an index is the token's normalised row. -/
theorem normed_blk (c : Dev nD) (t : Fin cfg0.N) (r : Fin 512) (d : Fin 4096) (n : Fin 1024) (hn : n.val = 512 * (t.val / 2) + r.val) :
    normed (iblk m c 0 t) (iblk m c 1 t) (ix2 r d) = row (m ((c.tc : Thread nD τ).loc main_arg0)) (m ((c.tc : Thread nD τ).loc main_arg1)) n d := by
  have hx := fun l => x_blk m c t r l n hn
  have hg := g_blk m c t d
  dsimp only at hx hg
  rw [normed_at]
  unfold row
  simp only [hx, hg]

/-- A block's product is the projection, once its rows are the tokens' normalised rows. -/
theorem prod_blk (c : Dev nD) (t : Fin cfg0.N) (H : Vec Ideal S512x4096 .bf16) (r : Fin 512) (h : Fin 4) (n : Fin 1024)
    (hH : ∀ d, H (ix2 r d) = row (m ((c.tc : Thread nD τ).loc main_arg0)) (m ((c.tc : Thread nD τ).loc main_arg1)) n d) (l : Fin 128) (e : Fin 1024) (he : e.val = 512 * (t.val % 2) + (128 * h.val + l.val)) :
    prod H (iblk m c 2 t) r h l = proj (m ((c.tc : Thread nD τ).loc main_arg0)) (m ((c.tc : Thread nD τ).loc main_arg1)) (m ((c.tc : Thread nD τ).loc main_arg2)) n e :=
  Finset.sum_congr rfl fun d _ => congrArg₂ (· * ·) (hH d) (w_blk m c t d _ e he)

/-- After any point the output block holds its part of the result. -/
theorem out_at (c : Dev nD) (t : Fin cfg0.N) (r : Fin 512) (j : Fin 512) (n : Fin 1024) (e : Fin 1024) (hn : n.val = 512 * (t.val / 2) + r.val) (he : e.val = 512 * (t.val % 2) + j.val) :
    (show Vec Ideal S512x512 .f32 from (outsAt0 m c t.val t.isLt).1) (ix2 r j) = cols (m ((c.tc : Thread nD τ).loc main_arg0)) (m ((c.tc : Thread nD τ).loc main_arg1)) (m ((c.tc : Thread nD τ).loc main_arg2)) (m ((c.tc : Thread nD τ).loc main_arg3)) n e := by
  have hl := t.isLt
  by_cases h0 : t.val % 2 = 0
  · rw [out_first m c t h0]
    unfold cols
    rw [if_pos (by omega)]
    obtain ⟨e, hE⟩ := e
    obtain rfl : e = j.val := by simp only at he; omega
    refine congrArg₂ (· * ·) ?_ (k_blk m c t h0 _ _ _ rfl)
    exact congrArg (fun P => unit P _) (funext fun l => prod_blk m c t _ r _ n (fun d => normed_blk m c t r d n hn) l _
      (by show 128 * (j.val / 128) + l.val = 512 * (t.val % 2) + (128 * (j.val / 128) + l.val); omega))
  · rw [out_second m c t h0 (by omega)]
    unfold cols
    rw [if_neg (by omega)]
    refine prod_blk m c t _ r _ n (fun d => ?_) _ e (by show e.val = 512 * (t.val % 2) + (128 * (j.val / 128) + j.val % 128); omega)
    rw [rows_first m c ⟨t.val - 1, by omega⟩ (by show (t.val - 1) % 2 = 0; omega)]
    exact normed_blk m c _ r d n (by show n.val = 512 * ((t.val - 1) / 2) + r.val; omega)

/-- The array after the run. -/
theorem final (c : Dev nD) : (dats m 0 c).arrAt 4 cfg0.N = result (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  have ht := lt_N t
  idx_vars y
  have hi : win0_4.index t = ![t.val / 2, t.val % 2] := (by decide +kernel : ∀ t : Fin grid0.N, win0_4.index t = ![t.val / 2, t.val % 2]) t
  have he : (ix2 (⟨512 * (t.val / 2) + y0.val, by omega⟩ : Fin 1024) (⟨512 * (t.val % 2) + y1.val, by omega⟩ : Fin 1024) : S1024x1024.Idx) = ((cfg0.win 4).blk t).view.emb (ix2 y0 y1) := by
    blk_ext [hi]
  refine Eq.trans ?_ (congrArg (result _ _ _ _) he)
  exact out_at m c t y0 y1 _ _ rfl rfl

end Cert.KvIdeal.Norm

end
-- ==== Proof.KvClaim.lean ====
/- The projection of the memory tokens computes its reference. -/
module

public import proofs.«01_k».proof.Defs
public import proofs.«01_k».proof.Proof.KvArray
public import proofs.«01_k».proof.Proof.Gen.KvReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_KvReferenceIdeal : quiescent_KvReferenceIdeal := fun m ρ _ =>
  (θ_run Cert.KvReferenceIdeal.defs _ _).mono (fun r h => ⟨fun c => (h c).2, sem_eq_zero_of_no_sems (by decide) r.2⟩)
    (Cert.KvReferenceIdeal.Value.run (F := Ideal) m ρ)

theorem algebraic_KvIdeal_KvReferenceIdeal : algebraic_KvIdeal_KvReferenceIdeal := by
  intro m ρ m' ρ' _ hagree
  refine ⟨_, Cert.KvIdeal.Value.run_blocks (F := Ideal) m ρ, ?_⟩
  refine (θ_run Cert.KvReferenceIdeal.defs _ _).mono (fun _ h c => ⟨?_, (h c).2⟩) (Cert.KvReferenceIdeal.Value.run (F := Ideal) m' ρ')
  rw [(h c).1]
  rw [Cert.KvIdeal.Norm.final]
  unfold Cert.KvReferenceIdeal.Value.res_main_v31
  funext i
  idx_vars i
  pointwise [Cert.KvIdeal.Norm.result, Cert.KvIdeal.Norm.cols, Cert.KvIdeal.Norm.unit, Cert.KvIdeal.Norm.proj, Cert.KvIdeal.Norm.row]
  simp only [hagree c]
  have e (x : Fin 128) : 128 * (i1.val / 128) + x.val = i1.val / 128 * 128 + x.val := by omega
  by_cases h : i1.val < 512
  · have e' : 128 * (i1.val / 128) + i1.val % 128 = i1.val := by omega
    have e2 : i1.val / 128 * 128 + i1.val % 128 = i1.val := by omega
    simp only [h, e, e', e2, ↓reduceDIte, ↓reduceIte]
  · have e' : 512 + (i1.val - 512) = i1.val := by omega
    simp only [h, e', ↓reduceDIte, ↓reduceIte]

end Cert.Proof

end
-- ==== Proof.XqBlock.lean ====
/- One grid point of the cross-attention's queries: the block it writes. -/
module

public import proofs.«01_k».proof.Proof.Gen.XqIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XqIdeal.Norm
open Cert.XqIdeal Cert.XqIdeal.Gen

variable (m : (ℓ : Loc nD τ sig) → Buf (Elt Ideal) ℓ)

/-- A load of the whole buffer reads what the stores left. -/
theorem read_all {e : EltTy} {κ : Kind} {sp : Space} (v : View sig κ sp S512x4096 e) (L : List (View.Piece (Elt Ideal) S512x4096 e)) :
    v.readCov L (Rect.unit (s := S512x4096) ![0, 0] ![512, 4096] inb_S512x4096_S512x4096_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- Four row tiles make up one function of the row. -/
theorem canon_rows (f : Vec Ideal S512x4096 .bf16) (p0 p1 p2 p3 : Vec Ideal S128x4096 .bf16)
    (h0 : ∀ (a : Fin 128) (b : Fin 4096), p0 (ix2 a b) = f (ix2 ⟨a.val, by omega⟩ b))
    (h1 : ∀ (a : Fin 128) (b : Fin 4096), p1 (ix2 a b) = f (ix2 ⟨128 + a.val, by omega⟩ b))
    (h2 : ∀ (a : Fin 128) (b : Fin 4096), p2 (ix2 a b) = f (ix2 ⟨256 + a.val, by omega⟩ b))
    (h3 : ∀ (a : Fin 128) (b : Fin 4096), p3 (ix2 a b) = f (ix2 ⟨384 + a.val, by omega⟩ b)) :
    View.canon (Val := Elt Ideal) (s := S512x4096) (e := .bf16)
      [⟨Rect.unit (s := S512x4096) ![384, 0] ![128, 4096] inb_S512x4096_S128x4096_384_0, p3⟩,
       ⟨Rect.unit (s := S512x4096) ![256, 0] ![128, 4096] inb_S512x4096_S128x4096_256_0, p2⟩,
       ⟨Rect.unit (s := S512x4096) ![128, 0] ![128, 4096] inb_S512x4096_S128x4096_128_0, p1⟩,
       ⟨Rect.unit (s := S512x4096) ![0, 0] ![128, 4096] inb_S512x4096_S128x4096_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- Four heads make up one function of the head and the lane. -/
theorem canon_heads (f : Fin 512 → Fin 4 → Fin 128 → EReal) (p0 p1 p2 p3 : Vec Ideal S512x128 .f32)
    (h0 : ∀ (a : Fin 512) (b : Fin 128), p0 (ix2 a b) = f a 0 b)
    (h1 : ∀ (a : Fin 512) (b : Fin 128), p1 (ix2 a b) = f a 1 b)
    (h2 : ∀ (a : Fin 512) (b : Fin 128), p2 (ix2 a b) = f a 2 b)
    (h3 : ∀ (a : Fin 512) (b : Fin 128), p3 (ix2 a b) = f a 3 b) :
    View.canon (Val := Elt Ideal) (s := S512x512) (e := .f32)
      [⟨Rect.unit (s := S512x512) ![0, 384] ![512, 128] inb_S512x512_S512x128_0_384, p3⟩,
       ⟨Rect.unit (s := S512x512) ![0, 256] ![512, 128] inb_S512x512_S512x128_0_256, p2⟩,
       ⟨Rect.unit (s := S512x512) ![0, 128] ![512, 128] inb_S512x512_S512x128_0_128, p1⟩,
       ⟨Rect.unit (s := S512x512) ![0, 0] ![512, 128] inb_S512x512_S512x128_0_0, p0⟩] = fun y : S512x512.Idx =>
        f (y 0) ⟨(show Fin 512 from y 1).val / 128, by omega⟩ ⟨(show Fin 512 from y 1).val % 128, by omega⟩ := by
  funext y
  canon_tiles x k
  · idx_vars x
    rw [h3]
    refine congr (congr (congrArg f (Fin.ext ?_)) (Fin.ext ?_)) (Fin.ext ?_)
    · show x0.val = (y 0).val; omega
    · show 3 = (y 1).val / 128; omega
    · show x1.val = (y 1).val % 128; omega
  · idx_vars x
    rw [h2]
    refine congr (congr (congrArg f (Fin.ext ?_)) (Fin.ext ?_)) (Fin.ext ?_)
    · show x0.val = (y 0).val; omega
    · show 2 = (y 1).val / 128; omega
    · show x1.val = (y 1).val % 128; omega
  · idx_vars x
    rw [h1]
    refine congr (congr (congrArg f (Fin.ext ?_)) (Fin.ext ?_)) (Fin.ext ?_)
    · show x0.val = (y 0).val; omega
    · show 1 = (y 1).val / 128; omega
    · show x1.val = (y 1).val % 128; omega
  · idx_vars x
    rw [h0]
    refine congr (congr (congrArg f (Fin.ext ?_)) (Fin.ext ?_)) (Fin.ext ?_)
    · show x0.val = (y 0).val; omega
    · show 0 = (y 1).val / 128; omega
    · show x1.val = (y 1).val % 128; omega

/-- The block's rows, divided by their root mean square and scaled. -/
def normed (X : Vec Ideal S512x4096 .f32) (G : Vec Ideal S1x4096 .f32) : Vec Ideal S512x4096 .bf16 := fun y =>
  X y * Ideal.rsqrt (Ideal.div (∑ d : Fin 4096, X (ix2 (y 0) d) * X (ix2 (y 0) d)) (Ideal.ofBits FTy.f32 1166016512#32)
    + Ideal.ofBits FTy.f32 897988541#32) * G (ix2 0 (y 1))

theorem normed_at (X : Vec Ideal S512x4096 .f32) (G : Vec Ideal S1x4096 .f32) (r : Fin 512) (d : Fin 4096) :
    normed X G (ix2 r d) = X (ix2 r d) * Ideal.rsqrt (Ideal.div (∑ d' : Fin 4096, X (ix2 r d') * X (ix2 r d')) (Ideal.ofBits FTy.f32 1166016512#32)
      + Ideal.ofBits FTy.f32 897988541#32) * G (ix2 0 d) := rfl

/-- The product of the normalised rows and the matrix, at a row, a head and a lane. -/
def prod (H : Vec Ideal S512x4096 .bf16) (W : Vec Ideal S4096x512 .bf16) (r : Fin 512) (h : Fin 4) (l : Fin 128) : EReal :=
  ∑ d : Fin 4096, H (ix2 r d) * W (ix2 d ⟨128 * h.val + l.val, by omega⟩)

/-- A head's lanes divided by their root mean square. -/
def unit (P : Fin 128 → EReal) (l : Fin 128) : EReal :=
  P l * Ideal.rsqrt (Ideal.div (∑ l' : Fin 128, P l' * P l') (Ideal.ofBits FTy.f32 1124073472#32) + Ideal.ofBits FTy.f32 897988541#32)

/-- A point writes the normalised heads of its tokens. -/
theorem out_blk (c : Dev nD) (t : Fin cfg0.N) : outsAt0 m c t = fun y : S512x512.Idx =>
    (fun (r : Fin 512) (h : Fin 4) (l : Fin 128) => unit (prod (normed (iblk m c 0 t) (iblk m c 1 t)) (iblk m c 2 t) r h) l
      * (show Vec Ideal S1x512 .f32 from iblk m c 3 t) (ix2 0 ⟨128 * h.val + l.val, by omega⟩))
    (y 0) ⟨(show Fin 512 from y 1).val / 128, by omega⟩ ⟨(show Fin 512 from y 1).val % 128, by omega⟩ := by
  unfold outsAt0
  frame_out
  rw [read_all, canon_rows (normed (iblk m c 0 t) (iblk m c 1 t))]
  · refine canon_heads (fun r h l => unit (prod (normed (iblk m c 0 t) (iblk m c 1 t)) (iblk m c 2 t) r h) l
      * (show Vec Ideal S1x512 .f32 from iblk m c 3 t) (ix2 0 ⟨128 * h.val + l.val, by omega⟩)) _ _ _ _ ?_ ?_ ?_ ?_
    all_goals intro a b
    all_goals pointwise [k0_pay1, k0_pay2, k0_pay3, k0_pay8, k0_pay9, k0_pay10, k0_pay11, prod, unit]
  all_goals intro a b
  all_goals pointwise [k0_pay4, k0_pay5, k0_pay6, k0_pay7, normed]

end Cert.XqIdeal.Norm

end
-- ==== Proof.XqArray.lean ====
/- The array of the cross-attention's queries, as a function of the call's argument arrays. -/
module

public import proofs.«01_k».proof.Proof.XqBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XqIdeal.Norm
open Cert.XqIdeal Cert.XqIdeal.Gen

/-- A token's normalised row. -/
def row (X : Vec Ideal S16384x4096 .f32) (G : Vec Ideal S4096 .f32) (n : Fin 16384) (d : Fin 4096) : EReal :=
  X (ix2 n d) * Ideal.rsqrt (Ideal.div (∑ d' : Fin 4096, X (ix2 n d') * X (ix2 n d')) (Ideal.ofBits FTy.f32 1166016512#32)
    + Ideal.ofBits FTy.f32 897988541#32) * G (ix1 d)

/-- One lane of one head of one token: the normalised row times a column of the matrix. -/
def proj (X : Vec Ideal S16384x4096 .f32) (G : Vec Ideal S4096 .f32) (W : Vec Ideal S4096x512 .f32) (n : Fin 16384) (h : Fin 4) (l : Fin 128) : EReal :=
  ∑ d : Fin 4096, row X G n d * W (ix2 d ⟨128 * h.val + l.val, by omega⟩)

/-- The result: every head normalised and scaled. -/
def result (X : Vec Ideal S16384x4096 .f32) (G : Vec Ideal S4096 .f32) (W : Vec Ideal S4096x512 .f32) (Q : Vec Ideal S128 .f32) :
    Vec Ideal S16384x512 .f32 := fun i =>
  unit (proj X G W (i 0) ⟨(show Fin 512 from i 1).val / 128, by omega⟩) ⟨(show Fin 512 from i 1).val % 128, by omega⟩
    * Q (ix1 ⟨(show Fin 512 from i 1).val % 128, by omega⟩)

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![0, 0] ∧ win0_3.index t = ![0, 0] :=
  (by decide +kernel : ∀ t : Fin grid0.N, _)

theorem lt_N (t : Fin cfg0.N) : t.val < 32 := lt_of_lt_of_eq t.isLt N_0

theorem x_blk (c : Dev nD) (t : Fin cfg0.N) (r : Fin 512) (l : Fin 4096) (n : Fin 16384) (hn : n.val = 512 * t.val + r.val) :
    (show Vec Ideal S512x4096 .f32 from iblk m c 0 t) (ix2 r l) = m ((c.tc : Thread nD τ).loc main_arg0) (ix2 n l) := by
  blk_ext [iblk, V, idx t]

theorem g_blk (c : Dev nD) (t : Fin cfg0.N) (l : Fin 4096) :
    (show Vec Ideal S1x4096 .f32 from iblk m c 1 t) (ix2 0 l) = m ((c.tc : Thread nD τ).loc main_arg1) (ix1 l) := by
  blk_simp [iblk]
  entry_read
  pointwise
  blk_ext [iblk, V, idx t]

theorem w_blk (c : Dev nD) (t : Fin cfg0.N) (d : Fin 4096) (l : Fin 512) :
    (show Vec Ideal S4096x512 .bf16 from iblk m c 2 t) (ix2 d l) = m ((c.tc : Thread nD τ).loc main_arg2) (ix2 d l) := by
  blk_simp [iblk]
  entry_read
  pointwise
  blk_ext [iblk, V, idx t]

theorem q_blk (c : Dev nD) (t : Fin cfg0.N) (h : Fin 4) (l : Fin 128) (j : Fin 512) (hj : j.val = 128 * h.val + l.val) :
    (show Vec Ideal S1x512 .f32 from iblk m c 3 t) (ix2 0 j) = m ((c.tc : Thread nD τ).loc main_arg3) (ix1 l) := by
  blk_simp [iblk]
  entry_read
  pointwise
  blk_ext [iblk, V, idx t]

/-- The normalised block at an index is the token's normalised row. -/
theorem normed_blk (c : Dev nD) (t : Fin cfg0.N) (r : Fin 512) (d : Fin 4096) (n : Fin 16384) (hn : n.val = 512 * t.val + r.val) :
    normed (iblk m c 0 t) (iblk m c 1 t) (ix2 r d) = row (m ((c.tc : Thread nD τ).loc main_arg0)) (m ((c.tc : Thread nD τ).loc main_arg1)) n d := by
  have hx := fun l => x_blk m c t r l n hn
  have hg := g_blk m c t d
  dsimp only at hx hg
  rw [normed_at]
  unfold row
  simp only [hx, hg]

/-- A block's product is the projection. -/
theorem prod_blk (c : Dev nD) (t : Fin cfg0.N) (r : Fin 512) (h : Fin 4) (n : Fin 16384) (hn : n.val = 512 * t.val + r.val) (l : Fin 128) :
    prod (normed (iblk m c 0 t) (iblk m c 1 t)) (iblk m c 2 t) r h l = proj (m ((c.tc : Thread nD τ).loc main_arg0)) (m ((c.tc : Thread nD τ).loc main_arg1)) (m ((c.tc : Thread nD τ).loc main_arg2)) n h l :=
  Finset.sum_congr rfl fun d _ => congrArg₂ (· * ·) (normed_blk m c t r d n hn) (w_blk m c t d _)

/-- After a point the output block holds its part of the result. -/
theorem out_at (c : Dev nD) (t : Fin cfg0.N) (r : Fin 512) (e : Fin 512) (n : Fin 16384) (hn : n.val = 512 * t.val + r.val) :
    (show Vec Ideal S512x512 .f32 from outsAt0 m c t) (ix2 r e) = result (m ((c.tc : Thread nD τ).loc main_arg0)) (m ((c.tc : Thread nD τ).loc main_arg1)) (m ((c.tc : Thread nD τ).loc main_arg2)) (m ((c.tc : Thread nD τ).loc main_arg3)) (ix2 n e) := by
  have hp := fun h => prod_blk m c t r h n hn
  rw [out_blk]
  refine congrArg₂ (· * ·) ?_ (q_blk m c t _ _ _ rfl)
  exact congrArg (fun P => unit P _) (funext (hp _))

/-- The array after the run. -/
theorem final (c : Dev nD) : (dats m 0 c).arrAt 4 cfg0.N = result (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  have ht := lt_N t
  idx_vars y
  have hi : win0_4.index t = ![t.val, 0] := (by decide +kernel : ∀ t : Fin grid0.N, win0_4.index t = ![t.val, 0]) t
  have he : (ix2 (⟨512 * t.val + y0.val, by omega⟩ : Fin 16384) y1 : S16384x512.Idx) = ((cfg0.win 4).blk t).view.emb (ix2 y0 y1) := by
    blk_ext [hi]
  refine Eq.trans ?_ (congrArg (result _ _ _ _) he)
  exact out_at m c t y0 y1 _ rfl

end Cert.XqIdeal.Norm

end
-- ==== Proof.XqClaim.lean ====
/- The cross-attention's queries are their reference's. -/
module

public import proofs.«01_k».proof.Defs
public import proofs.«01_k».proof.Proof.XqArray
public import proofs.«01_k».proof.Proof.Gen.XqReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_XqReferenceIdeal : quiescent_XqReferenceIdeal := fun m ρ _ =>
  (θ_run Cert.XqReferenceIdeal.defs _ _).mono (fun r h => ⟨fun c => (h c).2, sem_eq_zero_of_no_sems (by decide) r.2⟩)
    (Cert.XqReferenceIdeal.Value.run (F := Ideal) m ρ)

theorem algebraic_XqIdeal_XqReferenceIdeal : algebraic_XqIdeal_XqReferenceIdeal := by
  intro m ρ m' ρ' _ hagree
  refine ⟨_, Cert.XqIdeal.Value.run_blocks (F := Ideal) m ρ, ?_⟩
  refine (θ_run Cert.XqReferenceIdeal.defs _ _).mono (fun _ h c => ⟨?_, (h c).2⟩) (Cert.XqReferenceIdeal.Value.run (F := Ideal) m' ρ')
  rw [(h c).1]
  simp only [hagree c]
  rw [Cert.XqIdeal.Norm.final]
  funext i
  idx_vars i
  pointwise [Cert.XqIdeal.Norm.result, Cert.XqIdeal.Norm.unit, Cert.XqIdeal.Norm.proj, Cert.XqIdeal.Norm.row]
  have e (x : Fin 128) : 128 * (i1.val / 128) + x.val = i1.val / 128 * 128 + x.val := by omega
  have e' : (⟨128 * (i1.val / 128) + i1.val % 128, by omega⟩ : Fin 512) = i1 := Fin.ext (by show 128 * (i1.val / 128) + i1.val % 128 = i1.val; omega)
  simp only [e, e']

end Cert.Proof

end
-- ==== Proof.XattnBlock.lean ====
/- One grid point of the cross-attention: the block it writes. -/
module

public import proofs.«01_k».proof.Proof.Gen.XattnIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XattnIdeal.Norm
open Cert.XattnIdeal Cert.XattnIdeal.Gen

variable (m : (ℓ : Loc nD τ sig) → Buf (Elt Ideal) ℓ)

/-- Four heads make up one function of the head and the lane. -/
theorem canon_heads (f : Fin 512 → Fin 4 → Fin 128 → EReal) (p0 p1 p2 p3 : Vec Ideal S1x512x128 .f32)
    (h0 : ∀ (a : Fin 512) (b : Fin 128), p0 (ix3 0 a b) = f a 0 b)
    (h1 : ∀ (a : Fin 512) (b : Fin 128), p1 (ix3 0 a b) = f a 1 b)
    (h2 : ∀ (a : Fin 512) (b : Fin 128), p2 (ix3 0 a b) = f a 2 b)
    (h3 : ∀ (a : Fin 512) (b : Fin 128), p3 (ix3 0 a b) = f a 3 b) :
    View.canon (Val := Elt Ideal) (s := S1x512x512) (e := .f32)
      [⟨Rect.unit (s := S1x512x512) ![0, 0, 384] ![1, 512, 128] inb_S1x512x512_S1x512x128_0_0_384, p3⟩,
       ⟨Rect.unit (s := S1x512x512) ![0, 0, 256] ![1, 512, 128] inb_S1x512x512_S1x512x128_0_0_256, p2⟩,
       ⟨Rect.unit (s := S1x512x512) ![0, 0, 128] ![1, 512, 128] inb_S1x512x512_S1x512x128_0_0_128, p1⟩,
       ⟨Rect.unit (s := S1x512x512) ![0, 0, 0] ![1, 512, 128] inb_S1x512x512_S1x512x128_0_0_0, p0⟩] = fun y : S1x512x512.Idx =>
        f (y 1) ⟨(show Fin 512 from y 2).val / 128, by omega⟩ ⟨(show Fin 512 from y 2).val % 128, by omega⟩ := by
  funext y
  canon_tiles x k
  · have hx : ix3 0 (x 1) (x 2) = x := by
      funext j; match j with | ⟨0, _⟩ => exact Subsingleton.elim (α := Fin 1) _ _ | ⟨1, _⟩ => rfl | ⟨2, _⟩ => rfl
    refine ((congrArg p3 hx).symm.trans (h3 (x 1) (x 2))).trans ?_
    refine congr (congr (congrArg f (Fin.ext ?_)) (Fin.ext ?_)) (Fin.ext ?_)
    · show (x 1).val = (y 1).val; omega
    · show 3 = (y 2).val / 128; omega
    · show (x 2).val = (y 2).val % 128; omega
  · have hx : ix3 0 (x 1) (x 2) = x := by
      funext j; match j with | ⟨0, _⟩ => exact Subsingleton.elim (α := Fin 1) _ _ | ⟨1, _⟩ => rfl | ⟨2, _⟩ => rfl
    refine ((congrArg p2 hx).symm.trans (h2 (x 1) (x 2))).trans ?_
    refine congr (congr (congrArg f (Fin.ext ?_)) (Fin.ext ?_)) (Fin.ext ?_)
    · show (x 1).val = (y 1).val; omega
    · show 2 = (y 2).val / 128; omega
    · show (x 2).val = (y 2).val % 128; omega
  · have hx : ix3 0 (x 1) (x 2) = x := by
      funext j; match j with | ⟨0, _⟩ => exact Subsingleton.elim (α := Fin 1) _ _ | ⟨1, _⟩ => rfl | ⟨2, _⟩ => rfl
    refine ((congrArg p1 hx).symm.trans (h1 (x 1) (x 2))).trans ?_
    refine congr (congr (congrArg f (Fin.ext ?_)) (Fin.ext ?_)) (Fin.ext ?_)
    · show (x 1).val = (y 1).val; omega
    · show 1 = (y 2).val / 128; omega
    · show (x 2).val = (y 2).val % 128; omega
  · have hx : ix3 0 (x 1) (x 2) = x := by
      funext j; match j with | ⟨0, _⟩ => exact Subsingleton.elim (α := Fin 1) _ _ | ⟨1, _⟩ => rfl | ⟨2, _⟩ => rfl
    refine ((congrArg p0 hx).symm.trans (h0 (x 1) (x 2))).trans ?_
    refine congr (congr (congrArg f (Fin.ext ?_)) (Fin.ext ?_)) (Fin.ext ?_)
    · show (x 1).val = (y 1).val; omega
    · show 0 = (y 2).val / 128; omega
    · show (x 2).val = (y 2).val % 128; omega

/-- A query's score of a key, for one head. -/
def score (Q : Vec Ideal S1x512x512 .f32) (K : Vec Ideal S1x256x1024 .f32) (r : Fin 512) (h : Fin 4) (m : Fin 256) : EReal :=
  (∑ d : Fin 128, Q (ix3 0 r ⟨128 * h.val + d.val, by omega⟩) * K (ix3 0 m ⟨128 * h.val + d.val, by omega⟩)) * Ideal.ofBits FTy.f32 1035273459#32

/-- The softmax of the scores. -/
def weight (s : Fin 256 → EReal) (m : Fin 256) : EReal :=
  Ideal.div (Ideal.exp (s m - Finset.univ.fold max (Ideal.ofBits FTy.f32 4286578688#32) s)) (∑ m' : Fin 256, Ideal.exp (s m' - Finset.univ.fold max (Ideal.ofBits FTy.f32 4286578688#32) s))

/-- A point writes its queries' weighted sums of the values. -/
theorem out_blk (c : Dev nD) (t : Fin cfg0.N) : out0_2 (iblk m c 0 t) (iblk m c 1 t) = fun y : S1x512x512.Idx =>
    (fun (r : Fin 512) (h : Fin 4) (l : Fin 128) => ∑ m' : Fin 256, weight (score (iblk m c 0 t) (iblk m c 1 t) r h) m'
      * (show Vec Ideal S1x256x1024 .f32 from iblk m c 1 t) (ix3 0 m' ⟨512 + (128 * h.val + l.val), by omega⟩))
    (y 1) ⟨(show Fin 512 from y 2).val / 128, by omega⟩ ⟨(show Fin 512 from y 2).val % 128, by omega⟩ := by
  frame_out
  refine canon_heads (fun (r : Fin 512) (h : Fin 4) (l : Fin 128) => ∑ m' : Fin 256, weight (score (iblk m c 0 t) (iblk m c 1 t) r h) m'
      * (show Vec Ideal S1x256x1024 .f32 from iblk m c 1 t) (ix3 0 m' ⟨512 + (128 * h.val + l.val), by omega⟩)) _ _ _ _ ?_ ?_ ?_ ?_
  all_goals intro a b
  all_goals pointwise [k0_pay1, k0_pay2, k0_pay3, k0_pay4, k0_pay5, k0_pay6, k0_pay7, k0_pay8, score, weight]
  all_goals simp only [← Nat.add_assoc, Nat.reduceAdd]

end Cert.XattnIdeal.Norm

end
-- ==== Proof.XattnArray.lean ====
/- The array the cross-attention writes, as a function of its argument arrays. -/
module

public import proofs.«01_k».proof.Proof.XattnBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XattnIdeal.Norm
open Cert.XattnIdeal Cert.XattnIdeal.Gen

/-- A query's score of a key, for one head. -/
def logit (Q : Vec Ideal S4x4096x512 .f32) (K : Vec Ideal S4x256x1024 .f32) (b : Fin 4) (n : Fin 4096) (h : Fin 4) (m : Fin 256) : EReal :=
  (∑ d : Fin 128, Q (ix3 b n ⟨128 * h.val + d.val, by omega⟩) * K (ix3 b m ⟨128 * h.val + d.val, by omega⟩)) * Ideal.ofBits FTy.f32 1035273459#32

/-- The result: every head's values, weighted by the softmax of its scores. -/
def result (Q : Vec Ideal S4x4096x512 .f32) (K : Vec Ideal S4x256x1024 .f32) : Vec Ideal S4x4096x512 .f32 := fun i =>
  ∑ m : Fin 256, weight (logit Q K (i 0) (i 1) ⟨(show Fin 512 from i 2).val / 128, by omega⟩) m
    * K (ix3 (i 0) m ⟨512 + (128 * ((show Fin 512 from i 2).val / 128) + (show Fin 512 from i 2).val % 128), by omega⟩)

variable (m : (ℓ : Loc nD τ sig) → Buf (Elt Ideal) ℓ)

/-- Where each window's block sits: the batch is the point's number divided by 8, the block of queries the remainder. -/
theorem idx : ∀ t : Fin cfg0.N, win0_0.index t = ![t.val / 8, t.val % 8, 0] ∧ win0_1.index t = ![t.val / 8, 0, 0] :=
  (by decide +kernel : ∀ t : Fin grid0.N, _)

theorem lt_N (t : Fin cfg0.N) : t.val < 32 := lt_of_lt_of_eq t.isLt N_0

theorem q_blk (c : Dev nD) (t : Fin cfg0.N) (r : Fin 512) (l : Fin 512) (b : Fin 4) (n : Fin 4096) (hb : b.val = t.val / 8) (hn : n.val = 512 * (t.val % 8) + r.val) :
    (show Vec Ideal S1x512x512 .f32 from iblk m c 0 t) (ix3 0 r l) = m ((c.tc : Thread nD τ).loc main_arg0) (ix3 b n l) := by
  blk_ext [iblk, V, idx t]

theorem k_blk (c : Dev nD) (t : Fin cfg0.N) (r : Fin 256) (l : Fin 1024) (b : Fin 4) (hb : b.val = t.val / 8) :
    (show Vec Ideal S1x256x1024 .f32 from iblk m c 1 t) (ix3 0 r l) = m ((c.tc : Thread nD τ).loc main_arg1) (ix3 b r l) := by
  blk_ext [iblk, V, idx t]

/-- A block's scores. -/
theorem score_blk (c : Dev nD) (t : Fin cfg0.N) (r : Fin 512) (h : Fin 4) (b : Fin 4) (n : Fin 4096) (hb : b.val = t.val / 8) (hn : n.val = 512 * (t.val % 8) + r.val) :
    score (iblk m c 0 t) (iblk m c 1 t) r h = logit (m ((c.tc : Thread nD τ).loc main_arg0)) (m ((c.tc : Thread nD τ).loc main_arg1)) b n h := by
  funext k
  refine congrArg (· * _) (Finset.sum_congr rfl fun d _ => ?_)
  exact congrArg₂ (· * ·) (q_blk m c t r _ b n hb hn) (k_blk m c t k _ b hb)

/-- After a point the output block holds its part of the result. -/
theorem out_at (c : Dev nD) (t : Fin cfg0.N) (r : Fin 512) (e : Fin 512) (b : Fin 4) (n : Fin 4096) (hb : b.val = t.val / 8) (hn : n.val = 512 * (t.val % 8) + r.val) :
    (show Vec Ideal S1x512x512 .f32 from out0_2 (iblk m c 0 t) (iblk m c 1 t)) (ix3 0 r e) = result (m ((c.tc : Thread nD τ).loc main_arg0)) (m ((c.tc : Thread nD τ).loc main_arg1)) (ix3 b n e) := by
  rw [out_blk]
  refine Finset.sum_congr rfl fun k _ => congrArg₂ (· * ·) ?_ (k_blk m c t k _ b hb)
  exact congrArg (fun s => weight s k) (score_blk m c t r _ b n hb hn)

/-- The array after the run. -/
theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht := lt_N t
  obtain ⟨y0, y1, rfl⟩ : ∃ (a : Fin 512) (b : Fin 512), y = ix3 0 a b :=
    ⟨y 1, y 2, by funext j; match j with | ⟨0, _⟩ => exact Subsingleton.elim (α := Fin 1) _ _ | ⟨1, _⟩ => rfl | ⟨2, _⟩ => rfl⟩
  have hi : win0_2.index t = ![t.val / 8, t.val % 8, 0] := (by decide +kernel : ∀ t : Fin grid0.N, win0_2.index t = ![t.val / 8, t.val % 8, 0]) t
  have he : (ix3 (⟨t.val / 8, by omega⟩ : Fin 4) (⟨512 * (t.val % 8) + y0.val, by omega⟩ : Fin 4096) y1 : S4x4096x512.Idx) = ((cfg0.win 2).blk t).view.emb (ix3 0 y0 y1) := by
    blk_ext [hi]
  refine Eq.trans ?_ (congrArg (result _ _) he)
  exact out_at m c t y0 y1 _ _ rfl rfl

end Cert.XattnIdeal.Norm

end
-- ==== Proof.XattnReference.lean ====
/- The cross-attention's reference, stage by stage, read at an index. -/
module

public import proofs.«01_k».proof.Proof.Gen.XattnReferenceIdeal.Run
public import proofs.«01_k».proof.Proof.XattnArray
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XattnReferenceIdeal.Norm
open Cert.XattnReferenceIdeal Cert.XattnReferenceIdeal.Gen

/-- A largest value along the last of four axes. -/
theorem reduce_last {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce (FloatOps.maximumf (F := Ideal) (φ := .f32)) x init h hu j = Finset.univ.fold max (init (Shape.Idx.first hu)) (fun k : Fin n3 =>
      x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) :=
  (Host.reduce_eq_fold _ x init h hu j).trans (h.fold_fiber_r4_a3 j _ _ x)

/-- The reference's scores. -/
def scores (Q : Vec Ideal S4x4096x512 .f32) (K : Vec Ideal S4x256x1024 .f32) : Vec Ideal S4x4x4096x256 .f32 :=
  mulf (Host.dotGeneral (F := Ideal) (φ₁ := .f32) (φ₂ := .f32) dot_S4x4096x4x128_S4x256x4x128_S4x4x4096x256_3_3_1_1_02_02 none
      (shapeCast (α := EReal) S4x4096x4x128 Q shapeCasts_S4x4096x512_S4x4096x4x128)
      (shapeCast (α := EReal) S4x256x4x128 (extractStridedSlice (α := EReal) S4x256x512 ![0, 0, 0] K slices_S4x256x1024_S4x256x512_0_0_0) shapeCasts_S4x256x512_S4x256x4x128))
    (broadcastInDim S4x4x4096x256 ![] bcast_S_S4x4x4096x256 (constant (F := Ideal) S_ .f32 0x3DB504F3#32))

theorem scores_at (Q : Vec Ideal S4x4096x512 .f32) (K : Vec Ideal S4x256x1024 .f32) (b h : Fin 4) (n : Fin 4096) (k : Fin 256) :
    scores Q K (ix4 b h n k) = Cert.XattnIdeal.Norm.logit Q K b n h k := by
  pointwise [scores, Cert.XattnIdeal.Norm.logit]
  have e (x : Fin 128) : 128 * h.val + x.val = h.val * 128 + x.val := by omega
  simp only [e]

/-- The largest score of every query. -/
def peak (s : Vec Ideal S4x4x4096x256 .f32) : Vec Ideal S4x4x4096 .f32 :=
  Host.reduce (FloatOps.maximumf (F := Ideal) (φ := .f32)) s (constant (F := Ideal) S_ .f32 0xFF800000#32) reducesTo_S4x4x4096x256_S4x4x4096_d3 h_S_

theorem peak_at (s : Vec Ideal S4x4x4096x256 .f32) (b h : Fin 4) (n : Fin 4096) :
    peak s (ix3 b h n) = Finset.univ.fold max (Ideal.ofBits FTy.f32 4286578688#32) (fun k : Fin 256 => s (ix4 b h n k)) := by
  unfold peak
  rw [reduce_last]
  rfl

/-- The same, never below the least value. -/
def top (s : Vec Ideal S4x4x4096x256 .f32) : Vec Ideal S4x4x4096 .f32 :=
  maximumf (broadcastInDim S4x4x4096 ![] bcast_S_S4x4x4096 (constant (F := Ideal) S_ .f32 0xFF800000#32)) (peak s)

/-- A fold from a value is at least the value. -/
theorem max_fold (b : EReal) (f : Fin 256 → EReal) : max b (Finset.univ.fold max b f) = Finset.univ.fold max b f :=
  max_eq_right ((Finset.le_fold_max _).mpr (Or.inl le_rfl))

/-- The larger of two arrays, at an index. -/
theorem larger_at (x p : Vec Ideal S4x4x4096 .f32) (i : S4x4x4096.Idx) : maximumf (F := Ideal) (φ := .f32) x p i = max (x i) (p i) := by
  pointwise

/-- The least value, at an index. -/
theorem least_at (i : S4x4x4096.Idx) : broadcastInDim S4x4x4096 ![] bcast_S_S4x4x4096 (constant (F := Ideal) S_ .f32 0xFF800000#32) i = Ideal.ofBits FTy.f32 4286578688#32 := by
  pointwise

theorem top_at (s : Vec Ideal S4x4x4096x256 .f32) (b h : Fin 4) (n : Fin 4096) :
    top s (ix3 b h n) = Finset.univ.fold max (Ideal.ofBits FTy.f32 4286578688#32) (fun k : Fin 256 => s (ix4 b h n k)) := by
  refine (larger_at _ _ _).trans ?_
  rw [least_at, peak_at]
  exact max_fold _ _

/-- The exponentials of the scores less the largest. -/
def raised (s : Vec Ideal S4x4x4096x256 .f32) : Vec Ideal S4x4x4096x256 .f32 :=
  Host.exp (F := Ideal) (φ := .f32) (subf s (broadcastInDim S4x4x4096x256 ![0, 1, 2, 3] bcast_S4x4x4096x1_S4x4x4096x256_0_1_2_3 (broadcastInDim S4x4x4096x1 ![0, 1, 2] bcast_S4x4x4096_S4x4x4096x1_0_1_2 (top s))))

theorem raised_at (s : Vec Ideal S4x4x4096x256 .f32) (b h : Fin 4) (n : Fin 4096) (k : Fin 256) :
    raised s (ix4 b h n k) = Ideal.exp (s (ix4 b h n k) - Finset.univ.fold max (Ideal.ofBits FTy.f32 4286578688#32) (fun k : Fin 256 => s (ix4 b h n k))) := by
  pointwise [raised]
  rw [top_at]

/-- The softmax of the scores. -/
def soft (s : Vec Ideal S4x4x4096x256 .f32) : Vec Ideal S4x4x4096x256 .f32 :=
  Host.divf (F := Ideal) (φ := .f32) (raised s) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (raised s) (constant (F := Ideal) S_ .f32 0x00000000#32) reducesTo_S4x4x4096x256_S4x4x4096_d3 h_S_)))

theorem soft_at (s : Vec Ideal S4x4x4096x256 .f32) (b h : Fin 4) (n : Fin 4096) (k : Fin 256) :
    soft s (ix4 b h n k) = Cert.XattnIdeal.Norm.weight (fun k => s (ix4 b h n k)) k := by
  pointwise [soft]
  simp only [raised_at]
  rfl

/-- The values weighted by the softmax, the heads end to end. -/
def mix (K : Vec Ideal S4x256x1024 .f32) (p : Vec Ideal S4x4x4096x256 .f32) : Vec Ideal S4x4096x512 .f32 :=
  shapeCast (α := EReal) S4x4096x512 (transpose (α := EReal) S4x4096x4x128 [0, 3, 1, 2] (Host.dotGeneral (F := Ideal) (φ₁ := .f32) (φ₂ := .f32) dot_S4x256x4x128_S4x4x4096x256_S4x4x128x4096_1_3_3_2_02_01 none
    (shapeCast (α := EReal) S4x256x4x128 (extractStridedSlice (α := EReal) S4x256x512 ![0, 0, 512] K slices_S4x256x1024_S4x256x512_0_0_512) shapeCasts_S4x256x512_S4x256x4x128) p)
    transposes_S4x4x128x4096_S4x4096x4x128_0_3_1_2) shapeCasts_S4x4096x4x128_S4x4096x512

/-- The reference's result is the kernel's. -/
theorem result_eq (Q : Vec Ideal S4x4096x512 .f32) (K : Vec Ideal S4x256x1024 .f32) :
    mix K (soft (scores Q K)) = Cert.XattnIdeal.Norm.result Q K := by
  funext i
  idx_vars i
  pointwise [mix, Cert.XattnIdeal.Norm.result]
  simp only [soft_at, scores_at]
  have e' : 512 + (128 * (i2.val / 128) + i2.val % 128) = 512 + i2.val := by omega
  simp only [e']
  exact Finset.sum_congr rfl fun x _ => mul_comm _ _

end Cert.XattnReferenceIdeal.Norm

end
-- ==== Proof.XattnClaim.lean ====
/- The cross-attention computes its reference. -/
module

public import proofs.«01_k».proof.Defs
public import proofs.«01_k».proof.Proof.XattnReference
public import proofs.«01_k».proof.Proof.Gen.XattnReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_XattnReferenceIdeal : quiescent_XattnReferenceIdeal := fun m ρ _ =>
  (θ_run Cert.XattnReferenceIdeal.defs _ _).mono (fun r h => ⟨fun c => (h c).2, sem_eq_zero_of_no_sems (by decide) r.2⟩)
    (Cert.XattnReferenceIdeal.Value.run (F := Ideal) m ρ)

theorem algebraic_XattnIdeal_XattnReferenceIdeal : algebraic_XattnIdeal_XattnReferenceIdeal := by
  intro m ρ m' ρ' _ hagree
  refine ⟨_, Cert.XattnIdeal.Value.run_blocks (F := Ideal) m ρ, ?_⟩
  refine (θ_run Cert.XattnReferenceIdeal.defs _ _).mono (fun _ h c => ⟨?_, (h c).2⟩) (Cert.XattnReferenceIdeal.Value.run (F := Ideal) m' ρ')
  rw [(h c).1]
  rw [Cert.XattnIdeal.Norm.final, ← Cert.XattnReferenceIdeal.Norm.result_eq, ← (hagree c).1, ← (hagree c).2]
  rfl

end Cert.Proof

end
-- ==== Proof.XoBlock.lean ====
/- One grid point of the projection of the cross-attention's result: the block it writes. -/
module

public import proofs.«01_k».proof.Proof.Gen.XoIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XoIdeal.Norm
open Cert.XoIdeal Cert.XoIdeal.Gen

variable (m : (ℓ : Loc nD τ sig) → Buf (Elt Ideal) ℓ)

/-- A load of the whole buffer reads what the stores left. -/
theorem read_all {e : EltTy} {κ : Kind} {sp : Space} (v : View sig κ sp S512x512 e) (L : List (View.Piece (Elt Ideal) S512x512 e)) :
    v.readCov L (Rect.unit (s := S512x512) ![0, 0] ![512, 512] inb_S512x512_S512x512_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- Four row tiles make up one function of the row. -/
theorem canon_rows (f : Vec Ideal S512x512 .bf16) (p0 p1 p2 p3 : Vec Ideal S128x512 .bf16)
    (h0 : ∀ (a : Fin 128) (b : Fin 512), p0 (ix2 a b) = f (ix2 ⟨a.val, by omega⟩ b))
    (h1 : ∀ (a : Fin 128) (b : Fin 512), p1 (ix2 a b) = f (ix2 ⟨128 + a.val, by omega⟩ b))
    (h2 : ∀ (a : Fin 128) (b : Fin 512), p2 (ix2 a b) = f (ix2 ⟨256 + a.val, by omega⟩ b))
    (h3 : ∀ (a : Fin 128) (b : Fin 512), p3 (ix2 a b) = f (ix2 ⟨384 + a.val, by omega⟩ b)) :
    View.canon (Val := Elt Ideal) (s := S512x512) (e := .bf16)
      [⟨Rect.unit (s := S512x512) ![384, 0] ![128, 512] inb_S512x512_S128x512_384_0, p3⟩,
       ⟨Rect.unit (s := S512x512) ![256, 0] ![128, 512] inb_S512x512_S128x512_256_0, p2⟩,
       ⟨Rect.unit (s := S512x512) ![128, 0] ![128, 512] inb_S512x512_S128x512_128_0, p1⟩,
       ⟨Rect.unit (s := S512x512) ![0, 0] ![128, 512] inb_S512x512_S128x512_0_0, p0⟩] = f := by
  funext y
  canon_tiles x k
  · idx_vars x
    rw [h3]; blk_ext
  · idx_vars x
    rw [h2]; blk_ext
  · idx_vars x
    rw [h1]; blk_ext
  · idx_vars x
    rw [h0]; blk_ext

/-- A column tile stored over narrower ones: what lies below it extends by its own columns. -/
theorem canon_peel (f : Vec Ideal S512x4096 .f32) (o : ℕ) (ho : o + 128 ≤ 4096) (inb : ∀ a, (![0, o] : Fin 2 → ℕ) a + (![512, 128] : Fin 2 → ℕ) a ≤ S512x4096.size a)
    (p : Vec Ideal S512x128 .f32) (L : List (View.Piece (Elt Ideal) S512x4096 .f32))
    (hp : ∀ (a : Fin 512) (b : Fin 128), p (ix2 a b) = f (ix2 a ⟨o + b.val, by omega⟩))
    (hL : ∀ y : S512x4096.Idx, (y 1).val < o → View.canon L y = f y) (y : S512x4096.Idx) (hy : (y 1).val < o + 128) :
    View.canon (Val := Elt Ideal) (s := S512x4096) (e := .f32) (⟨Rect.unit (s := S512x4096) ![0, o] ![512, 128] inb, p⟩ :: L) y = f y := by
  by_cases hm : o ≤ (y 1).val
  · have h0 : (y 0).val < 512 := (y 0).isLt
    have he : y = (Rect.unit (s := S512x4096) ![0, o] ![512, 128] inb).emb
        (ix2 (⟨(y 0).val, h0⟩ : Fin 512) (⟨(y 1).val - o, by omega⟩ : Fin 128)) := by
      funext a
      refine Fin.ext ?_
      match a with
      | ⟨0, _⟩ => show (y 0).val = 0 + 1 * (y 0).val; omega
      | ⟨1, _⟩ => show (y 1).val = o + 1 * ((y 1).val - o); omega
    rw [he, View.canon_cons_emb]
    refine (hp _ _).trans (congrArg f ?_)
    funext a
    refine Fin.ext ?_
    match a with
    | ⟨0, _⟩ => show (y 0).val = 0 + 1 * (y 0).val; omega
    | ⟨1, _⟩ => show o + ((y 1).val - o) = o + 1 * ((y 1).val - o); omega
  · rw [View.canon_cons_of_not_mem]
    · exact hL y (by omega)
    · intro h
      have h1 := (Rect.mem_set_unit (inb := inb)).mp h 1
      exact hm h1.1

/-- A block of rows, as the scratch holds it. -/
def rows (X : Vec Ideal S512x512 .f32) : Vec Ideal S512x512 .bf16 := fun y => X y

theorem rows_at (X : Vec Ideal S512x512 .f32) (r d : Fin 512) : rows X (ix2 r d) = X (ix2 r d) := rfl

/-- The product of a block of rows and the matrix, and the residual's block. -/
def prod (X : Vec Ideal S512x512 .bf16) (W : Vec Ideal S512x4096 .bf16) (R : Vec Ideal S512x4096 .f32) : Vec Ideal S512x4096 .f32 := fun y =>
  (∑ d : Fin 512, X (ix2 (y 0) d) * W (ix2 d (y 1))) + R y

/-- A point writes its tokens' product and residual. -/
theorem out_blk (c : Dev nD) (t : Fin cfg0.N) : outsAt0 m c t = prod (rows (iblk m c 0 t)) (iblk m c 1 t) (iblk m c 2 t) := by
  unfold outsAt0
  frame_out
  rw [read_all, canon_rows (rows (iblk m c 0 t))]
  · funext y
    refine canon_peel _ 3968 (by omega) _ _ _ ?_ ?_ _ (y 1).isLt
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3840 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3712 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3584 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3456 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3328 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3200 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 3072 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2944 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2816 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2688 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2560 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2432 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2304 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2176 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 2048 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1920 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1792 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1664 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1536 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1408 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1280 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1152 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 1024 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 896 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 768 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 640 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 512 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 384 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 256 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 128 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    refine canon_peel _ 0 (by omega) _ _ _ ?_ ?_ _ hy
    · intro a b
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, prod]
    intro y hy
    exact absurd hy (Nat.not_lt_zero _)
  all_goals intro a b
  all_goals pointwise [k0_pay2, k0_pay3, k0_pay4, k0_pay5, rows]

end Cert.XoIdeal.Norm

end
-- ==== Proof.XoArray.lean ====
/- The array the projection of the cross-attention's result writes, as a function of its argument arrays. -/
module

public import proofs.«01_k».proof.Proof.XoBlock
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.XoIdeal.Norm
open Cert.XoIdeal Cert.XoIdeal.Gen

/-- The result: the rows times the matrix, added to the residual. -/
def result (X : Vec Ideal S16384x512 .f32) (W : Vec Ideal S512x4096 .f32) (R : Vec Ideal S16384x4096 .f32) : Vec Ideal S16384x4096 .f32 := fun i =>
  R i + ∑ d : Fin 512, X (ix2 (i 0) d) * W (ix2 d (i 1))

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 32 := lt_of_lt_of_eq t.isLt N_0

theorem x_blk (c : Dev nD) (t : Fin cfg0.N) (r : Fin 512) (l : Fin 512) (n : Fin 16384) (hn : n.val = 512 * t.val + r.val) :
    (show Vec Ideal S512x512 .f32 from iblk m c 0 t) (ix2 r l) = m ((c.tc : Thread nD τ).loc main_arg0) (ix2 n l) := by
  blk_ext [iblk, V, idx t]

theorem w_blk (c : Dev nD) (t : Fin cfg0.N) (d : Fin 512) (l : Fin 4096) :
    (show Vec Ideal S512x4096 .bf16 from iblk m c 1 t) (ix2 d l) = m ((c.tc : Thread nD τ).loc main_arg1) (ix2 d l) := by
  blk_simp [iblk]
  entry_read
  pointwise
  blk_ext [iblk, V, idx t]

theorem r_blk (c : Dev nD) (t : Fin cfg0.N) (r : Fin 512) (l : Fin 4096) (n : Fin 16384) (hn : n.val = 512 * t.val + r.val) :
    (show Vec Ideal S512x4096 .f32 from iblk m c 2 t) (ix2 r l) = m ((c.tc : Thread nD τ).loc main_arg2) (ix2 n l) := by
  blk_ext [iblk, V, idx t]

/-- After a point the output block holds its part of the result. -/
theorem out_at (c : Dev nD) (t : Fin cfg0.N) (r : Fin 512) (e : Fin 4096) (n : Fin 16384) (hn : n.val = 512 * t.val + r.val) :
    (show Vec Ideal S512x4096 .f32 from outsAt0 m c t) (ix2 r e) = result (m ((c.tc : Thread nD τ).loc main_arg0)) (m ((c.tc : Thread nD τ).loc main_arg1)) (m ((c.tc : Thread nD τ).loc main_arg2)) (ix2 n e) := by
  rw [out_blk]
  refine Eq.trans ?_ (add_comm _ _)
  refine congrArg₂ (· + ·) ?_ (r_blk m c t r e n hn)
  exact Finset.sum_congr rfl fun d _ => congrArg₂ (· * ·) (x_blk m c t r d n hn) (w_blk m c t d e)

/-- The array after the run. -/
theorem final (c : Dev nD) : (dats m 0 c).arrAt 3 cfg0.N = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  idx_vars y
  have hi : win0_3.index t = ![t.val, 0] := (by decide +kernel : ∀ t : Fin grid0.N, win0_3.index t = ![t.val, 0]) t
  have he : (ix2 (⟨512 * t.val + y0.val, by omega⟩ : Fin 16384) y1 : S16384x4096.Idx) = ((cfg0.win 3).blk t).view.emb (ix2 y0 y1) := by
    blk_ext [hi]
  refine Eq.trans ?_ (congrArg (result _ _ _) he)
  exact out_at m c t y0 y1 _ rfl

end Cert.XoIdeal.Norm

end
-- ==== Proof.XoClaim.lean ====
/- The projection of the cross-attention's result computes its reference. -/
module

public import proofs.«01_k».proof.Defs
public import proofs.«01_k».proof.Proof.XoArray
public import proofs.«01_k».proof.Proof.Gen.XoReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem quiescent_XoReferenceIdeal : quiescent_XoReferenceIdeal := fun m ρ _ =>
  (θ_run Cert.XoReferenceIdeal.defs _ _).mono (fun r h => ⟨fun c => (h c).2, sem_eq_zero_of_no_sems (by decide) r.2⟩)
    (Cert.XoReferenceIdeal.Value.run (F := Ideal) m ρ)

theorem algebraic_XoIdeal_XoReferenceIdeal : algebraic_XoIdeal_XoReferenceIdeal := by
  intro m ρ m' ρ' _ hagree
  refine ⟨_, Cert.XoIdeal.Value.run_blocks (F := Ideal) m ρ, ?_⟩
  refine (θ_run Cert.XoReferenceIdeal.defs _ _).mono (fun _ h c => ⟨?_, (h c).2⟩) (Cert.XoReferenceIdeal.Value.run (F := Ideal) m' ρ')
  rw [(h c).1]
  simp only [hagree c]
  rw [Cert.XoIdeal.Norm.final]
  funext i
  idx_vars i
  pointwise [Cert.XoIdeal.Norm.result]

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Qkv.Frame
public import proofs.«01_k».proof.Proof.Gen.QkvIdeal.Value
public import proofs.«01_k».proof.Proof.Gen.QkvReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.Gen.Pq.Frame
public import proofs.«01_k».proof.Proof.Gen.PqIdeal.Value
public import proofs.«01_k».proof.Proof.Gen.PqReferenceIdeal.Run
public import proofs.«01_k».proof.Proof.Gen.Kv.Frame
public import proofs.«01_k».proof.Proof.Gen.KvIdeal.Value
public import proofs.«01_k».proof.Proof.Gen.KvReferenceIdeal.Run
public import proofs.«01_k».proof.Proof.Gen.Xq.Frame
public import proofs.«01_k».proof.Proof.Gen.XqIdeal.Value
public import proofs.«01_k».proof.Proof.Gen.XqReferenceIdeal.Run
public import proofs.«01_k».proof.Proof.Gen.Xattn.Frame
public import proofs.«01_k».proof.Proof.Gen.XattnIdeal.Value
public import proofs.«01_k».proof.Proof.Gen.XattnReferenceIdeal.Run
public import proofs.«01_k».proof.Proof.Gen.Xo.Frame
public import proofs.«01_k».proof.Proof.Gen.XoIdeal.Value
public import proofs.«01_k».proof.Proof.Gen.XoReferenceIdeal.Run
public import proofs.«01_k».proof.Proof.PeerReference
public import proofs.«01_k».proof.Proof.QkvClaim
public import proofs.«01_k».proof.Proof.OutClaim
public import proofs.«01_k».proof.Proof.PqClaim
public import proofs.«01_k».proof.Proof.KvClaim
public import proofs.«01_k».proof.Proof.XqClaim
public import proofs.«01_k».proof.Proof.XattnClaim
public import proofs.«01_k».proof.Proof.XoClaim
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Peer.term_eq _ _ _ _ _ _ _ _).trans (Cert.KernelIdeal.Peer.final m c).symm

theorem claim : Cert.Claim :=
  ⟨Cert.Kernel.Gen.facts,
   Cert.KernelIdeal.Gen.facts,
   Cert.ReferenceIdeal.Gen.facts,
   Cert.Qkv.Gen.facts,
   Cert.QkvIdeal.Gen.facts,
   Cert.QkvReferenceIdeal.Gen.facts,
   Cert.Out.Gen.facts,
   Cert.OutIdeal.Gen.facts,
   Cert.OutReferenceIdeal.Gen.facts,
   Cert.Pq.Gen.facts,
   Cert.PqIdeal.Gen.facts,
   Cert.PqReferenceIdeal.Gen.facts,
   Cert.Kv.Gen.facts,
   Cert.KvIdeal.Gen.facts,
   Cert.KvReferenceIdeal.Gen.facts,
   Cert.Xq.Gen.facts,
   Cert.XqIdeal.Gen.facts,
   Cert.XqReferenceIdeal.Gen.facts,
   Cert.Xattn.Gen.facts,
   Cert.XattnIdeal.Gen.facts,
   Cert.XattnReferenceIdeal.Gen.facts,
   Cert.Xo.Gen.facts,
   Cert.XoIdeal.Gen.facts,
   Cert.XoReferenceIdeal.Gen.facts,
   fun m ρ _ => Cert.Kernel.Gen.frame m ρ,
   fun m ρ _ => Cert.KernelIdeal.Gen.frame m ρ,
   quiescent_ReferenceIdeal,
   fun m ρ _ => Cert.Qkv.Gen.frame m ρ,
   fun m ρ _ => Cert.QkvIdeal.Gen.frame m ρ,
   quiescent_QkvReferenceIdeal,
   fun m ρ _ => Cert.Out.Gen.frame m ρ,
   fun m ρ _ => Cert.OutIdeal.Gen.frame m ρ,
   quiescent_OutReferenceIdeal,
   fun m ρ _ => Cert.Pq.Gen.frame m ρ,
   fun m ρ _ => Cert.PqIdeal.Gen.frame m ρ,
   quiescent_PqReferenceIdeal,
   fun m ρ _ => Cert.Kv.Gen.frame m ρ,
   fun m ρ _ => Cert.KvIdeal.Gen.frame m ρ,
   quiescent_KvReferenceIdeal,
   fun m ρ _ => Cert.Xq.Gen.frame m ρ,
   fun m ρ _ => Cert.XqIdeal.Gen.frame m ρ,
   quiescent_XqReferenceIdeal,
   fun m ρ _ => Cert.Xattn.Gen.frame m ρ,
   fun m ρ _ => Cert.XattnIdeal.Gen.frame m ρ,
   quiescent_XattnReferenceIdeal,
   fun m ρ _ => Cert.Xo.Gen.frame m ρ,
   fun m ρ _ => Cert.XoIdeal.Gen.frame m ρ,
   quiescent_XoReferenceIdeal,
   (trivial : preserves_Kernel_KernelIdeal),
   algebraic_KernelIdeal_ReferenceIdeal,
   (trivial : preserves_Qkv_QkvIdeal),
   algebraic_QkvIdeal_QkvReferenceIdeal,
   (trivial : preserves_Out_OutIdeal),
   algebraic_OutIdeal_OutReferenceIdeal,
   (trivial : preserves_Pq_PqIdeal),
   algebraic_PqIdeal_PqReferenceIdeal,
   (trivial : preserves_Kv_KvIdeal),
   algebraic_KvIdeal_KvReferenceIdeal,
   (trivial : preserves_Xq_XqIdeal),
   algebraic_XqIdeal_XqReferenceIdeal,
   (trivial : preserves_Xattn_XattnIdeal),
   algebraic_XattnIdeal_XattnReferenceIdeal,
   (trivial : preserves_Xo_XoIdeal),
   algebraic_XoIdeal_XoReferenceIdeal⟩

end Cert.Proof

end
